-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x4096 : Shape := ⟨2, ![1024, 4096]⟩
abbrev S4096x1024 : Shape := ⟨2, ![4096, 1024]⟩
abbrev S1024x8 : Shape := ⟨2, ![1024, 8]⟩
abbrev S8x1024x8 : Shape := ⟨3, ![8, 1024, 8]⟩
abbrev S8x8x4096 : Shape := ⟨3, ![8, 8, 4096]⟩
abbrev S4096x8 : Shape := ⟨2, ![4096, 8]⟩
abbrev S8x4096x8 : Shape := ⟨3, ![8, 4096, 8]⟩
abbrev S8x8x1024 : Shape := ⟨3, ![8, 8, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024x8 : S_.BroadcastsInDim S1024x8 (![] : Fin 0 → Fin S1024x8.rank)
  reducesTo_S1024x8_S_d0_1 : S1024x8.ReducesTo [0, 1] S_
  bcast_S_S8x1024x8 : S_.BroadcastsInDim S8x1024x8 (![] : Fin 0 → Fin S8x1024x8.rank)
  reducesTo_S8x1024x8_S_d0_1_2 : S8x1024x8.ReducesTo [0, 1, 2] S_
  bcast_S_S8x8x4096 : S_.BroadcastsInDim S8x8x4096 (![] : Fin 0 → Fin S8x8x4096.rank)
  reducesTo_S8x8x4096_S_d0_1_2 : S8x8x4096.ReducesTo [0, 1, 2] S_
  bcast_S_S4096x8 : S_.BroadcastsInDim S4096x8 (![] : Fin 0 → Fin S4096x8.rank)
  reducesTo_S4096x8_S_d0_1 : S4096x8.ReducesTo [0, 1] S_

variable [Facts]

def fn_part2 {F : FTy → Type} [FloatOps F] (main_arg9 : FVec F S8x8x4096 .f32) (main_arg10 : FVec F S4096x8 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8x8x4096 .f32 := Host.absf main_arg9
  let main_cst_14 : FVec F S_ .f32 := constant S_ .f32 0x7F800000#32
  let main_v33 : FVec F S8x8x4096 .f32 := broadcastInDim S8x8x4096 ![] bcast_S_S8x8x4096 main_cst_14
  let main_v34 : IVec S8x8x4096 1 := cmpf .olt main_v32 main_v33
  let main_c_15 : IVec S_ 1 := constantI S_ 1 1#1
  let main_v35 : IVec S_ 1 := (fun x v => Host.reduce IntOp.andi x v reducesTo_S8x8x4096_S_d0_1_2 h_S_) main_v34 main_c_15
  let main_v36 : FVec F S4096x8 .f32 := Host.absf main_arg10
  let main_cst_16 : FVec F S_ .f32 := constant S_ .f32 0x7F800000#32
  let main_v37 : FVec F S4096x8 .f32 := broadcastInDim S4096x8 ![] bcast_S_S4096x8 main_cst_16
  let main_v38 : IVec S4096x8 1 := cmpf .olt main_v36 main_v37
  let main_c_17 : IVec S_ 1 := constantI S_ 1 1#1
  let main_v39 : IVec S_ 1 := (fun x v => Host.reduce IntOp.andi x v reducesTo_S4096x8_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg5 : FVec F S8x1024x8 .f32) (main_arg6 : FVec F S8x8x4096 .f32) (main_arg7 : FVec F S1024x8 .f32) (main_arg8 : FVec F S8x1024x8 .f32) (main_arg9 : FVec F S8x8x4096 .f32) (main_arg10 : FVec F S4096x8 .f32) (main_v3 : IVec S_ 1) (main_v7 : IVec S_ 1) (main_v11 : IVec S_ 1) (main_v15 : IVec S_ 1) : IVec S_ 1 :=
  let main_v16 : FVec F S8x1024x8 .f32 := Host.absf main_arg5
  let main_cst_6 : FVec F S_ .f32 := constant S_ .f32 0x7F800000#32
  let main_v17 : FVec F S8x1024x8 .f32 := broadcastInDim S8x1024x8 ![] bcast_S_S8x1024x8 main_cst_6
  let main_v18 : IVec S8x1024x8 1 := cmpf .olt main_v16 main_v17
  let main_c_7 : IVec S_ 1 := constantI S_ 1 1#1
  let main_v19 : IVec S_ 1 := (fun x v => Host.reduce IntOp.andi x v reducesTo_S8x1024x8_S_d0_1_2 h_S_) main_v18 main_c_7
  let main_v20 : FVec F S8x8x4096 .f32 := Host.absf main_arg6
  let main_cst_8 : FVec F S_ .f32 := constant S_ .f32 0x7F800000#32
  let main_v21 : FVec F S8x8x4096 .f32 := broadcastInDim S8x8x4096 ![] bcast_S_S8x8x4096 main_cst_8
  let main_v22 : IVec S8x8x4096 1 := cmpf .olt main_v20 main_v21
  let main_c_9 : IVec S_ 1 := constantI S_ 1 1#1
  let main_v23 : IVec S_ 1 := (fun x v => Host.reduce IntOp.andi x v reducesTo_S8x8x4096_S_d0_1_2 h_S_) main_v22 main_c_9
  let main_v24 : FVec F S1024x8 .f32 := Host.absf main_arg7
  let main_cst_10 : FVec F S_ .f32 := constant S_ .f32 0x7F800000#32
  let main_v25 : FVec F S1024x8 .f32 := broadcastInDim S1024x8 ![] bcast_S_S1024x8 main_cst_10
  let main_v26 : IVec S1024x8 1 := cmpf .olt main_v24 main_v25
  let main_c_11 : IVec S_ 1 := constantI S_ 1 1#1
  let main_v27 : IVec S_ 1 := (fun x v => Host.reduce IntOp.andi x v reducesTo_S1024x8_S_d0_1 h_S_) main_v26 main_c_11
  let main_v28 : FVec F S8x1024x8 .f32 := Host.absf main_arg8
  let main_cst_12 : FVec F S_ .f32 := constant S_ .f32 0x7F800000#32
  let main_v29 : FVec F S8x1024x8 .f32 := broadcastInDim S8x1024x8 ![] bcast_S_S8x1024x8 main_cst_12
  let main_v30 : IVec S8x1024x8 1 := cmpf .olt main_v28 main_v29
  let main_c_13 : IVec S_ 1 := constantI S_ 1 1#1
  let main_v31 : IVec S_ 1 := (fun x v => Host.reduce IntOp.andi x v reducesTo_S8x1024x8_S_d0_1_2 h_S_) main_v30 main_c_13
  fn_part2 (F := F) main_arg9 main_arg10 main_v3 main_v7 main_v11 main_v15 main_v19 main_v23 main_v27 main_v31

def fn {F : FTy → Type} [FloatOps F] (main_arg0 : FVec F S2x2048x1024 .f32) (main_arg1 : FVec F S1024x4096 .f32) (main_arg2 : FVec F S1024x4096 .f32) (main_arg3 : FVec F S4096x1024 .f32) (main_arg4 : FVec F S1024x8 .f32) (main_arg5 : FVec F S8x1024x8 .f32) (main_arg6 : FVec F S8x8x4096 .f32) (main_arg7 : FVec F S1024x8 .f32) (main_arg8 : FVec F S8x1024x8 .f32) (main_arg9 : FVec F S8x8x4096 .f32) (main_arg10 : FVec F S4096x8 .f32) (main_arg11 : FVec F S8x4096x8 .f32) (main_arg12 : FVec F S8x8x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : FVec F S1024x8 .f32 := Host.absf main_arg4
  let main_cst_4 : FVec F S_ .f32 := constant S_ .f32 0x7F800000#32
  let main_v13 : FVec F S1024x8 .f32 := broadcastInDim S1024x8 ![] bcast_S_S1024x8 main_cst_4
  let main_v14 : IVec S1024x8 1 := cmpf .olt main_v12 main_v13
  let main_c_5 : IVec S_ 1 := constantI S_ 1 1#1
  let main_v15 : IVec S_ 1 := (fun x v => Host.reduce IntOp.andi x v reducesTo_S1024x8_S_d0_1 h_S_) main_v14 main_c_5
  fn_part1 (F := F) main_arg5 main_arg6 main_arg7 main_arg8 main_arg9 main_arg10 main_v3 main_v7 main_v11 main_v15
-- ==== Kernel.lean ====
abbrev S2x2048x1024 : Shape := ⟨3, ![2, 2048, 1024]⟩
abbrev S1024x4096 : Shape := ⟨2, ![1024, 4096]⟩
abbrev S4096x1024 : Shape := ⟨2, ![4096, 1024]⟩
abbrev S1024x8 : Shape := ⟨2, ![1024, 8]⟩
abbrev S8x1024x8 : Shape := ⟨3, ![8, 1024, 8]⟩
abbrev S8x8x4096 : Shape := ⟨3, ![8, 8, 4096]⟩
abbrev S4096x8 : Shape := ⟨2, ![4096, 8]⟩
abbrev S8x4096x8 : Shape := ⟨3, ![8, 4096, 8]⟩
abbrev S8x8x1024 : Shape := ⟨3, ![8, 8, 1024]⟩
abbrev S1024x8x8 : Shape := ⟨3, ![1024, 8, 8]⟩
abbrev S1024x64 : Shape := ⟨2, ![1024, 64]⟩
abbrev S1024x144 : Shape := ⟨2, ![1024, 144]⟩
abbrev S4096x8x8 : Shape := ⟨3, ![4096, 8, 8]⟩
abbrev S4096x64 : Shape := ⟨2, ![4096, 64]⟩
abbrev S4096x72 : Shape := ⟨2, ![4096, 72]⟩
abbrev S64x4096 : Shape := ⟨2, ![64, 4096]⟩
abbrev S64x1024 : Shape := ⟨2, ![64, 1024]⟩
abbrev S512x1024 : Shape := ⟨2, ![512, 1024]⟩
abbrev S2x128x4096 : Shape := ⟨3, ![2, 128, 4096]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S1x256x1024 : Shape := ⟨3, ![1, 256, 1024]⟩
abbrev S256x1024 : Shape := ⟨2, ![256, 1024]⟩
abbrev S512x144 : Shape := ⟨2, ![512, 144]⟩
abbrev S1024x2048 : Shape := ⟨2, ![1024, 2048]⟩
abbrev S512x2048 : Shape := ⟨2, ![512, 2048]⟩
abbrev S512x64 : Shape := ⟨2, ![512, 64]⟩
abbrev S512x8 : Shape := ⟨2, ![512, 8]⟩
abbrev S512 : Shape := ⟨1, ![512]⟩
abbrev S512x1 : Shape := ⟨2, ![512, 1]⟩
abbrev S8x64 : Shape := ⟨2, ![8, 64]⟩
abbrev S512x72 : Shape := ⟨2, ![512, 72]⟩
abbrev S64x2048 : Shape := ⟨2, ![64, 2048]⟩
abbrev S2048x1024 : Shape := ⟨2, ![2048, 1024]⟩
abbrev S2048x72 : Shape := ⟨2, ![2048, 72]⟩

abbrev nBuf : Space → Nat
  | .hbm => 31
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S1024x8, .f32⟩
  | .hbm, ⟨5, _⟩ => ⟨S8x1024x8, .f32⟩
  | .hbm, ⟨6, _⟩ => ⟨S8x8x4096, .f32⟩
  | .hbm, ⟨7, _⟩ => ⟨S1024x8, .f32⟩
  | .hbm, ⟨8, _⟩ => ⟨S8x1024x8, .f32⟩
  | .hbm, ⟨9, _⟩ => ⟨S8x8x4096, .f32⟩
  | .hbm, ⟨10, _⟩ => ⟨S4096x8, .f32⟩
  | .hbm, ⟨11, _⟩ => ⟨S8x4096x8, .f32⟩
  | .hbm, ⟨12, _⟩ => ⟨S8x8x1024, .f32⟩
  | .hbm, ⟨13, _⟩ => ⟨S4096x1024, .f32⟩
  | .hbm, ⟨14, _⟩ => ⟨S1024x8x8, .f32⟩
  | .hbm, ⟨15, _⟩ => ⟨S1024x64, .f32⟩
  | .hbm, ⟨16, _⟩ => ⟨S1024x8x8, .f32⟩
  | .hbm, ⟨17, _⟩ => ⟨S1024x64, .f32⟩
  | .hbm, ⟨18, _⟩ => ⟨S1024x144, .f32⟩
  | .hbm, ⟨19, _⟩ => ⟨S1024x144, .bf16⟩
  | .hbm, ⟨20, _⟩ => ⟨S4096x8x8, .f32⟩
  | .hbm, ⟨21, _⟩ => ⟨S4096x64, .f32⟩
  | .hbm, ⟨22, _⟩ => ⟨S4096x72, .f32⟩
  | .hbm, ⟨23, _⟩ => ⟨S4096x72, .bf16⟩
  | .hbm, ⟨24, _⟩ => ⟨S64x4096, .f32⟩
  | .hbm, ⟨25, _⟩ => ⟨S64x4096, .bf16⟩
  | .hbm, ⟨26, _⟩ => ⟨S64x4096, .f32⟩
  | .hbm, ⟨27, _⟩ => ⟨S64x4096, .bf16⟩
  | .hbm, ⟨28, _⟩ => ⟨S64x1024, .f32⟩
  | .hbm, ⟨29, _⟩ => ⟨S64x1024, .bf16⟩
  | .hbm, ⟨30, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x144, .bf16⟩
  | .local _ .vmem, ⟨3, _⟩ => ⟨S4096x72, .bf16⟩
  | .local _ .vmem, ⟨4, _⟩ => ⟨S64x4096, .bf16⟩
  | .local _ .vmem, ⟨5, _⟩ => ⟨S64x4096, .bf16⟩
  | .local _ .vmem, ⟨6, _⟩ => ⟨S64x1024, .bf16⟩
  | .local _ .vmem, ⟨7, _⟩ => ⟨S512x1024, .f32⟩
  | .local _ .vmem, ⟨8, _⟩ => ⟨S512x1024, .f32⟩
  | .local _ .vmem, ⟨9, _⟩ => ⟨S1024x4096, .bf16⟩
  | .local _ .vmem, ⟨10, _⟩ => ⟨S1024x4096, .bf16⟩
  | .local _ .vmem, ⟨11, _⟩ => ⟨S4096x1024, .bf16⟩
  | .local _ .vmem, ⟨12, _⟩ => ⟨S2x128x4096, .f32⟩
  | .local _ .vmem, ⟨13, _⟩ => ⟨S2x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_86 : BitVec 32 := 0#32
  let c8_i32_87 : BitVec 32 := 8#32
  let v201 : BitVec 32 := Scalar.addi c0_i32_86 c8_i32_87
  let c1_i32_88 : BitVec 32 := 1#32
  ⟨c0_i32_86, v201, c1_i32_88⟩
def k0_cond2 (k0_t1 : Fin k0_t1_loop.trips) : BitVec 1 :=
  let c0_i32_86 : BitVec 32 := 0#32
  let c1_i32_88 : BitVec 32 := 1#32
  let arg17 : BitVec 32 := Scf.iv c0_i32_86 c1_i32_88 k0_t1
  let c1_i32_111 : BitVec 32 := 1#32
  let v217 : BitVec 32 := Scalar.addi arg17 c1_i32_111
  let c8_i32_112 : BitVec 32 := 8#32
  let v218 : BitVec 1 := Scalar.cmpi .slt v217 c8_i32_112
  let v219 : BitVec 32 := Scalar.extui v218
  let c0_i32_113 : BitVec 32 := 0#32
  let v220 : BitVec 1 := Scalar.cmpi .ne v219 c0_i32_113
  v220

def k0_off1 (k0_t1 : Fin k0_t1_loop.trips) : Fin 1 → Nat :=
  let c0_i32_86 : BitVec 32 := 0#32
  let c1_i32_88 : BitVec 32 := 1#32
  let arg17 : BitVec 32 := Scf.iv c0_i32_86 c1_i32_88 k0_t1
  let c1_i32_109 : BitVec 32 := 1#32
  let v215 : BitVec 32 := Scalar.addi arg17 c1_i32_109
  let c2_i32_110 : BitVec 32 := 2#32
  let v216 : BitVec 32 := Scalar.remsi v215 c2_i32_110
  ![v216.toNat]
def k0_off2 (k0_t1 : Fin k0_t1_loop.trips) : Fin 3 → Nat :=
  let c0_i32_86 : BitVec 32 := 0#32
  let c1_i32_88 : BitVec 32 := 1#32
  let arg17 : BitVec 32 := Scf.iv c0_i32_86 c1_i32_88 k0_t1
  let c1_i32_109 : BitVec 32 := 1#32
  let v215 : BitVec 32 := Scalar.addi arg17 c1_i32_109
  let c2_i32_110 : BitVec 32 := 2#32
  let v216 : BitVec 32 := Scalar.remsi v215 c2_i32_110
  let c0_i32_123 : BitVec 32 := 0#32
  let c0_i32_124 : BitVec 32 := 0#32
  ![v216.toNat, 0, 0]
def k0_off3 (k0_t1 : Fin k0_t1_loop.trips) : Fin 2 → Nat :=
  let c0_i32_86 : BitVec 32 := 0#32
  let c1_i32_88 : BitVec 32 := 1#32
  let arg17 : BitVec 32 := Scf.iv c0_i32_86 c1_i32_88 k0_t1
  let c1_i32_121 : BitVec 32 := 1#32
  let v236 : BitVec 32 := Scalar.addi arg17 c1_i32_121
  let c128_i32_122 : BitVec 32 := 128#32
  let v237 : BitVec 32 := Scalar.muli v236 c128_i32_122
  let c0_i32_125 : BitVec 32 := 0#32
  ![v237.toNat, 0]
def k0_off4 (k0_t1 : Fin k0_t1_loop.trips) : Fin 1 → Nat :=
  let c0_i32_86 : BitVec 32 := 0#32
  let c1_i32_88 : BitVec 32 := 1#32
  let arg17 : BitVec 32 := Scf.iv c0_i32_86 c1_i32_88 k0_t1
  let c2_i32 : BitVec 32 := 2#32
  let v214 : BitVec 32 := Scalar.remsi arg17 c2_i32
  ![v214.toNat]
def k0_off5 (k0_t1 : Fin k0_t1_loop.trips) : Fin 3 → Nat :=
  let c0_i32_86 : BitVec 32 := 0#32
  let c1_i32_88 : BitVec 32 := 1#32
  let arg17 : BitVec 32 := Scf.iv c0_i32_86 c1_i32_88 k0_t1
  let c2_i32 : BitVec 32 := 2#32
  let v214 : BitVec 32 := Scalar.remsi arg17 c2_i32
  let c0_i32_114 : BitVec 32 := 0#32
  let c0_i32_115 : BitVec 32 := 0#32
  ![v214.toNat, 0, 0]
def k0_off6 (k0_t1 : Fin k0_t1_loop.trips) : Fin 2 → Nat :=
  let c0_i32_86 : BitVec 32 := 0#32
  let c1_i32_88 : BitVec 32 := 1#32
  let arg17 : BitVec 32 := Scf.iv c0_i32_86 c1_i32_88 k0_t1
  let c128_i32 : BitVec 32 := 128#32
  let v221 : BitVec 32 := Scalar.muli arg17 c128_i32
  let c0_i32_116 : BitVec 32 := 0#32
  ![v221.toNat, 0]
def k0_off7 (k0_t1 : Fin k0_t1_loop.trips) : Fin 3 → Nat :=
  let c0_i32_86 : BitVec 32 := 0#32
  let c1_i32_88 : BitVec 32 := 1#32
  let arg17 : BitVec 32 := Scf.iv c0_i32_86 c1_i32_88 k0_t1
  let c2_i32 : BitVec 32 := 2#32
  let v214 : BitVec 32 := Scalar.remsi arg17 c2_i32
  let v227 : Index := Scalar.indexCast v214
  let c0_117 : Index := 0#32
  let c0_118 : Index := 0#32
  ![v227.toNat, 0, 0]
def k0_off8 (k0_t1 : Fin k0_t1_loop.trips) : Fin 2 → Nat :=
  let c0_i32_86 : BitVec 32 := 0#32
  let c1_i32_88 : BitVec 32 := 1#32
  let arg17 : BitVec 32 := Scf.iv c0_i32_86 c1_i32_88 k0_t1
  let c128_i32_119 : BitVec 32 := 128#32
  let v231 : BitVec 32 := Scalar.muli arg17 c128_i32_119
  let v232 : Index := Scalar.indexCast v231
  let c0_120 : Index := 0#32
  ![v232.toNat, 0]
@[reducible] def k0_t2_loop : Scf.Loop 32 :=
  let c0_i32_96 : BitVec 32 := 0#32
  let c8_i32_97 : BitVec 32 := 8#32
  let v207 : BitVec 32 := Scalar.addi c0_i32_96 c8_i32_97
  let c1_i32_98 : BitVec 32 := 1#32
  ⟨c0_i32_96, v207, c1_i32_98⟩
def k0_cond3 (k0_t2 : Fin k0_t2_loop.trips) : BitVec 1 :=
  let c0_i32_96 : BitVec 32 := 0#32
  let c1_i32_98 : BitVec 32 := 1#32
  let arg17 : BitVec 32 := Scf.iv c0_i32_96 c1_i32_98 k0_t2
  let c1_i32_111 : BitVec 32 := 1#32
  let v217 : BitVec 32 := Scalar.addi arg17 c1_i32_111
  let c8_i32_112 : BitVec 32 := 8#32
  let v218 : BitVec 1 := Scalar.cmpi .slt v217 c8_i32_112
  let v219 : BitVec 32 := Scalar.extui v218
  let c0_i32_113 : BitVec 32 := 0#32
  let v220 : BitVec 1 := Scalar.cmpi .ne v219 c0_i32_113
  v220

def k0_off9 (k0_t2 : Fin k0_t2_loop.trips) : Fin 1 → Nat :=
  let c0_i32_96 : BitVec 32 := 0#32
  let c1_i32_98 : BitVec 32 := 1#32
  let arg17 : BitVec 32 := Scf.iv c0_i32_96 c1_i32_98 k0_t2
  let c1_i32_109 : BitVec 32 := 1#32
  let v215 : BitVec 32 := Scalar.addi arg17 c1_i32_109
  let c2_i32_110 : BitVec 32 := 2#32
  let v216 : BitVec 32 := Scalar.remsi v215 c2_i32_110
  ![v216.toNat]
def k0_off10 (k0_t2 : Fin k0_t2_loop.trips) : Fin 3 → Nat :=
  let c0_i32_96 : BitVec 32 := 0#32
  let c1_i32_98 : BitVec 32 := 1#32
  let arg17 : BitVec 32 := Scf.iv c0_i32_96 c1_i32_98 k0_t2
  let c1_i32_109 : BitVec 32 := 1#32
  let v215 : BitVec 32 := Scalar.addi arg17 c1_i32_109
  let c2_i32_110 : BitVec 32 := 2#32
  let v216 : BitVec 32 := Scalar.remsi v215 c2_i32_110
  let c0_i32_123 : BitVec 32 := 0#32
  let c0_i32_124 : BitVec 32 := 0#32
  ![v216.toNat, 0, 0]
def k0_off11 (k0_t2 : Fin k0_t2_loop.trips) : Fin 2 → Nat :=
  let c0_i32_96 : BitVec 32 := 0#32
  let c1_i32_98 : BitVec 32 := 1#32
  let arg17 : BitVec 32 := Scf.iv c0_i32_96 c1_i32_98 k0_t2
  let c1_i32_121 : BitVec 32 := 1#32
  let v236 : BitVec 32 := Scalar.addi arg17 c1_i32_121
  let c128_i32_122 : BitVec 32 := 128#32
  let v237 : BitVec 32 := Scalar.muli v236 c128_i32_122
  let c0_i32_125 : BitVec 32 := 0#32
  ![v237.toNat, 0]
def k0_off12 (k0_t2 : Fin k0_t2_loop.trips) : Fin 1 → Nat :=
  let c0_i32_96 : BitVec 32 := 0#32
  let c1_i32_98 : BitVec 32 := 1#32
  let arg17 : BitVec 32 := Scf.iv c0_i32_96 c1_i32_98 k0_t2
  let c2_i32 : BitVec 32 := 2#32
  let v214 : BitVec 32 := Scalar.remsi arg17 c2_i32
  ![v214.toNat]
def k0_off13 (k0_t2 : Fin k0_t2_loop.trips) : Fin 3 → Nat :=
  let c0_i32_96 : BitVec 32 := 0#32
  let c1_i32_98 : BitVec 32 := 1#32
  let arg17 : BitVec 32 := Scf.iv c0_i32_96 c1_i32_98 k0_t2
  let c2_i32 : BitVec 32 := 2#32
  let v214 : BitVec 32 := Scalar.remsi arg17 c2_i32
  let c0_i32_114 : BitVec 32 := 0#32
  let c0_i32_115 : BitVec 32 := 0#32
  ![v214.toNat, 0, 0]
def k0_off14 (k0_t2 : Fin k0_t2_loop.trips) : Fin 2 → Nat :=
  let c0_i32_96 : BitVec 32 := 0#32
  let c1_i32_98 : BitVec 32 := 1#32
  let arg17 : BitVec 32 := Scf.iv c0_i32_96 c1_i32_98 k0_t2
  let c128_i32 : BitVec 32 := 128#32
  let v221 : BitVec 32 := Scalar.muli arg17 c128_i32
  let c0_i32_116 : BitVec 32 := 0#32
  ![v221.toNat, 0]
def k0_off15 (k0_t2 : Fin k0_t2_loop.trips) : Fin 3 → Nat :=
  let c0_i32_96 : BitVec 32 := 0#32
  let c1_i32_98 : BitVec 32 := 1#32
  let arg17 : BitVec 32 := Scf.iv c0_i32_96 c1_i32_98 k0_t2
  let c2_i32 : BitVec 32 := 2#32
  let v214 : BitVec 32 := Scalar.remsi arg17 c2_i32
  let v227 : Index := Scalar.indexCast v214
  let c0_117 : Index := 0#32
  let c0_118 : Index := 0#32
  ![v227.toNat, 0, 0]
def k0_off16 (k0_t2 : Fin k0_t2_loop.trips) : Fin 2 → Nat :=
  let c0_i32_96 : BitVec 32 := 0#32
  let c1_i32_98 : BitVec 32 := 1#32
  let arg17 : BitVec 32 := Scf.iv c0_i32_96 c1_i32_98 k0_t2
  let c128_i32_119 : BitVec 32 := 128#32
  let v231 : BitVec 32 := Scalar.muli arg17 c128_i32_119
  let v232 : Index := Scalar.indexCast v231
  let c0_120 : Index := 0#32
  ![v232.toNat, 0]
@[reducible] def k0_t3_loop : Scf.Loop 32 :=
  let c0_i32_106 : BitVec 32 := 0#32
  let c16_i32 : BitVec 32 := 16#32
  let v213 : BitVec 32 := Scalar.addi c0_i32_106 c16_i32
  let c1_i32_107 : BitVec 32 := 1#32
  ⟨c0_i32_106, v213, c1_i32_107⟩
def k0_cond4 (k0_t3 : Fin k0_t3_loop.trips) : BitVec 1 :=
  let c0_i32_106 : BitVec 32 := 0#32
  let c1_i32_107 : BitVec 32 := 1#32
  let arg17 : BitVec 32 := Scf.iv c0_i32_106 c1_i32_107 k0_t3
  let c1_i32_111 : BitVec 32 := 1#32
  let v217 : BitVec 32 := Scalar.addi arg17 c1_i32_111
  let c16_i32_112 : BitVec 32 := 16#32
  let v218 : BitVec 1 := Scalar.cmpi .slt v217 c16_i32_112
  let v219 : BitVec 32 := Scalar.extui v218
  let c0_i32_113 : BitVec 32 := 0#32
  let v220 : BitVec 1 := Scalar.cmpi .ne v219 c0_i32_113
  v220

def k0_off17 (k0_t3 : Fin k0_t3_loop.trips) : Fin 1 → Nat :=
  let c0_i32_106 : BitVec 32 := 0#32
  let c1_i32_107 : BitVec 32 := 1#32
  let arg17 : BitVec 32 := Scf.iv c0_i32_106 c1_i32_107 k0_t3
  let c1_i32_109 : BitVec 32 := 1#32
  let v215 : BitVec 32 := Scalar.addi arg17 c1_i32_109
  let c2_i32_110 : BitVec 32 := 2#32
  let v216 : BitVec 32 := Scalar.remsi v215 c2_i32_110
  ![v216.toNat]
def k0_off18 (k0_t3 : Fin k0_t3_loop.trips) : Fin 3 → Nat :=
  let c0_i32_106 : BitVec 32 := 0#32
  let c1_i32_107 : BitVec 32 := 1#32
  let arg17 : BitVec 32 := Scf.iv c0_i32_106 c1_i32_107 k0_t3
  let c1_i32_109 : BitVec 32 := 1#32
  let v215 : BitVec 32 := Scalar.addi arg17 c1_i32_109
  let c2_i32_110 : BitVec 32 := 2#32
  let v216 : BitVec 32 := Scalar.remsi v215 c2_i32_110
  let c0_i32_123 : BitVec 32 := 0#32
  let c0_i32_124 : BitVec 32 := 0#32
  ![v216.toNat, 0, 0]
def k0_off19 (k0_t3 : Fin k0_t3_loop.trips) : Fin 2 → Nat :=
  let c0_i32_106 : BitVec 32 := 0#32
  let c1_i32_107 : BitVec 32 := 1#32
  let arg17 : BitVec 32 := Scf.iv c0_i32_106 c1_i32_107 k0_t3
  let c1_i32_121 : BitVec 32 := 1#32
  let v236 : BitVec 32 := Scalar.addi arg17 c1_i32_121
  let c256_i32_122 : BitVec 32 := 256#32
  let v237 : BitVec 32 := Scalar.muli v236 c256_i32_122
  let c0_i32_125 : BitVec 32 := 0#32
  ![v237.toNat, 0]
def k0_off20 (k0_t3 : Fin k0_t3_loop.trips) : Fin 1 → Nat :=
  let c0_i32_106 : BitVec 32 := 0#32
  let c1_i32_107 : BitVec 32 := 1#32
  let arg17 : BitVec 32 := Scf.iv c0_i32_106 c1_i32_107 k0_t3
  let c2_i32 : BitVec 32 := 2#32
  let v214 : BitVec 32 := Scalar.remsi arg17 c2_i32
  ![v214.toNat]
def k0_off21 (k0_t3 : Fin k0_t3_loop.trips) : Fin 3 → Nat :=
  let c0_i32_106 : BitVec 32 := 0#32
  let c1_i32_107 : BitVec 32 := 1#32
  let arg17 : BitVec 32 := Scf.iv c0_i32_106 c1_i32_107 k0_t3
  let c2_i32 : BitVec 32 := 2#32
  let v214 : BitVec 32 := Scalar.remsi arg17 c2_i32
  let c0_i32_114 : BitVec 32 := 0#32
  let c0_i32_115 : BitVec 32 := 0#32
  ![v214.toNat, 0, 0]
def k0_off22 (k0_t3 : Fin k0_t3_loop.trips) : Fin 2 → Nat :=
  let c0_i32_106 : BitVec 32 := 0#32
  let c1_i32_107 : BitVec 32 := 1#32
  let arg17 : BitVec 32 := Scf.iv c0_i32_106 c1_i32_107 k0_t3
  let c256_i32 : BitVec 32 := 256#32
  let v221 : BitVec 32 := Scalar.muli arg17 c256_i32
  let c0_i32_116 : BitVec 32 := 0#32
  ![v221.toNat, 0]
def k0_off23 (k0_t3 : Fin k0_t3_loop.trips) : Fin 3 → Nat :=
  let c0_i32_106 : BitVec 32 := 0#32
  let c1_i32_107 : BitVec 32 := 1#32
  let arg17 : BitVec 32 := Scf.iv c0_i32_106 c1_i32_107 k0_t3
  let c2_i32 : BitVec 32 := 2#32
  let v214 : BitVec 32 := Scalar.remsi arg17 c2_i32
  let v227 : Index := Scalar.indexCast v214
  let c0_117 : Index := 0#32
  let c0_118 : Index := 0#32
  ![v227.toNat, 0, 0]
def k0_off24 (k0_t3 : Fin k0_t3_loop.trips) : Fin 2 → Nat :=
  let c0_i32_106 : BitVec 32 := 0#32
  let c1_i32_107 : BitVec 32 := 1#32
  let arg17 : BitVec 32 := Scf.iv c0_i32_106 c1_i32_107 k0_t3
  let c256_i32_119 : BitVec 32 := 256#32
  let v231 : BitVec 32 := Scalar.muli arg17 c256_i32_119
  let v232 : Index := Scalar.indexCast v231
  let c0_120 : Index := 0#32
  ![v232.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x72 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x2048x1024 : Shape := ⟨3, ![2, 2048, 1024]⟩
abbrev S1024x4096 : Shape := ⟨2, ![1024, 4096]⟩
abbrev S4096x1024 : Shape := ⟨2, ![4096, 1024]⟩
abbrev S1024x8 : Shape := ⟨2, ![1024, 8]⟩
abbrev S8x1024x8 : Shape := ⟨3, ![8, 1024, 8]⟩
abbrev S8x8x4096 : Shape := ⟨3, ![8, 8, 4096]⟩
abbrev S4096x8 : Shape := ⟨2, ![4096, 8]⟩
abbrev S8x4096x8 : Shape := ⟨3, ![8, 4096, 8]⟩
abbrev S8x8x1024 : Shape := ⟨3, ![8, 8, 1024]⟩
abbrev S2x2048x4096 : Shape := ⟨3, ![2, 2048, 4096]⟩
abbrev S_ : Shape := ⟨0, ![]⟩
abbrev S4096 : Shape := ⟨1, ![4096]⟩
abbrev S4096x1 : Shape := ⟨2, ![4096, 1]⟩
abbrev S8x4096x4096 : Shape := ⟨3, ![8, 4096, 4096]⟩
abbrev S4096x4096 : Shape := ⟨2, ![4096, 4096]⟩
abbrev S8x4096x1024 : Shape := ⟨3, ![8, 4096, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S1024x8, .f32⟩
  | .hbm, ⟨5, _⟩ => ⟨S8x1024x8, .f32⟩
  | .hbm, ⟨6, _⟩ => ⟨S8x8x4096, .f32⟩
  | .hbm, ⟨7, _⟩ => ⟨S1024x8, .f32⟩
  | .hbm, ⟨8, _⟩ => ⟨S8x1024x8, .f32⟩
  | .hbm, ⟨9, _⟩ => ⟨S8x8x4096, .f32⟩
  | .hbm, ⟨10, _⟩ => ⟨S4096x8, .f32⟩
  | .hbm, ⟨11, _⟩ => ⟨S8x4096x8, .f32⟩
  | .hbm, ⟨12, _⟩ => ⟨S8x8x1024, .f32⟩
  | .hbm, ⟨13, _⟩ => ⟨S4096x1024, .f32⟩
  | .hbm, ⟨14, _⟩ => ⟨S2x2048x4096, .f32⟩
  | .hbm, ⟨15, _⟩ => ⟨S4096x8, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x8, .f32⟩
  | .hbm, ⟨29, _⟩ => ⟨S4096x8, .f32⟩
  | .hbm, ⟨30, _⟩ => ⟨S8x8x4096, .f32⟩
  | .hbm, ⟨31, _⟩ => ⟨S8x4096x8, .f32⟩
  | .hbm, ⟨32, _⟩ => ⟨S8x4096x4096, .f32⟩
  | .hbm, ⟨33, _⟩ => ⟨S_, .f32⟩
  | .hbm, ⟨34, _⟩ => ⟨S8x4096x4096, .f32⟩
  | .hbm, ⟨35, _⟩ => ⟨S8x4096x4096, .f32⟩
  | .hbm, ⟨36, _⟩ => ⟨S4096x4096, .f32⟩
  | .hbm, ⟨37, _⟩ => ⟨S2x2048x4096, .f32⟩
  | .hbm, ⟨38, _⟩ => ⟨S2x2048x4096, .f32⟩
  | .hbm, ⟨39, _⟩ => ⟨S2x2048x4096, .f32⟩
  | .hbm, ⟨40, _⟩ => ⟨S4096x8, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x8, .f32⟩
  | .hbm, ⟨54, _⟩ => ⟨S4096x8, .f32⟩
  | .hbm, ⟨55, _⟩ => ⟨S8x8x4096, .f32⟩
  | .hbm, ⟨56, _⟩ => ⟨S8x4096x8, .f32⟩
  | .hbm, ⟨57, _⟩ => ⟨S8x4096x4096, .f32⟩
  | .hbm, ⟨58, _⟩ => ⟨S_, .f32⟩
  | .hbm, ⟨59, _⟩ => ⟨S8x4096x4096, .f32⟩
  | .hbm, ⟨60, _⟩ => ⟨S8x4096x4096, .f32⟩
  | .hbm, ⟨61, _⟩ => ⟨S4096x4096, .f32⟩
  | .hbm, ⟨62, _⟩ => ⟨S2x2048x4096, .f32⟩
  | .hbm, ⟨63, _⟩ => ⟨S2x2048x4096, .f32⟩
  | .hbm, ⟨64, _⟩ => ⟨S2x2048x4096, .f32⟩
  | .hbm, ⟨65, _⟩ => ⟨S2x2048x4096, .f32⟩
  | .hbm, ⟨66, _⟩ => ⟨S_, .f32⟩
  | .hbm, ⟨67, _⟩ => ⟨S2x2048x4096, .f32⟩
  | .hbm, ⟨68, _⟩ => ⟨S2x2048x4096, .f32⟩
  | .hbm, ⟨69, _⟩ => ⟨S_, .f32⟩
  | .hbm, ⟨70, _⟩ => ⟨S2x2048x4096, .f32⟩
  | .hbm, ⟨71, _⟩ => ⟨S2x2048x4096, .f32⟩
  | .hbm, ⟨72, _⟩ => ⟨S2x2048x4096, .f32⟩
  | .hbm, ⟨73, _⟩ => ⟨S2x2048x4096, .f32⟩
  | .hbm, ⟨74, _⟩ => ⟨S4096x4096, .f32⟩
  | .hbm, ⟨75, _⟩ => ⟨S2x2048x1024, .f32⟩
  | .hbm, ⟨76, _⟩ => ⟨S4096x8, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1, .f32⟩
  | .hbm, ⟨83, _⟩ => ⟨S4096x8, .f32⟩
  | .hbm, ⟨84, _⟩ => ⟨S4096x8, .f32⟩
  | .hbm, ⟨85, _⟩ => ⟨S4096x8, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x8, .f32⟩
  | .hbm, ⟨90, _⟩ => ⟨S4096x8, .f32⟩
  | .hbm, ⟨91, _⟩ => ⟨S8x8x4096, .f32⟩
  | .hbm, ⟨92, _⟩ => ⟨S8x4096x8, .f32⟩
  | .hbm, ⟨93, _⟩ => ⟨S8x4096x1024, .f32⟩
  | .hbm, ⟨94, _⟩ => ⟨S_, .f32⟩
  | .hbm, ⟨95, _⟩ => ⟨S8x4096x1024, .f32⟩
  | .hbm, ⟨96, _⟩ => ⟨S8x4096x1024, .f32⟩
  | .hbm, ⟨97, _⟩ => ⟨S4096x1024, .f32⟩
  | .hbm, ⟨98, _⟩ => ⟨S2x2048x1024, .f32⟩
  | .hbm, ⟨99, _⟩ => ⟨S2x2048x1024, .f32⟩
  | .hbm, ⟨100, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]
-- ==== Proof.Ring.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Ring
public import Idealize.ShloMosaic.Lib.Ring.Trips
public import Idealize.ShloMosaic.Lib.Tactic

@[expose] public section

noncomputable section

namespace Cert.Proof.KernelIdealRing

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ
/-- No variant is declared. -/
abbrev 𝒱₀ : Variants := Variants.none

/-! ## Canonical names: a block of a weight, a slot of a staging buffer, a slot's semaphore -/

/-- The staging buffer of the two up-projections, whole. -/
abbrev bufA : Memref sig .tc .vmem S2x128x4096 .f32 := Memref.whole cc0_scratch3
/-- The staging buffer of the down-projection, whole. -/
abbrev bufB : Memref sig .tc .vmem S2x256x1024 .f32 := Memref.whole cc0_scratch4

/-- Slot `s`'s semaphore lies inside the pair. -/
theorem semInb (s : Fin 2) : ∀ a, (![s.val] : Fin 1 → Nat) a + S1.size a ≤ S2.size a := by
  have := s.isLt; intro a; fin_cases a; show s.val + 1 ≤ 2; omega
/-- Slot `s` lies inside the staging buffer of the two up-projections. -/
theorem slotInbA (s : Fin 2) : ∀ a, (![s.val, 0, 0] : Fin 3 → Nat) a + S1x128x4096.size a ≤ S2x128x4096.size a := by
  have := s.isLt; intro a; fin_cases a
  · show s.val + 1 ≤ 2; omega
  · show 0 + 128 ≤ 128; omega
  · show 0 + 4096 ≤ 4096; omega
/-- Slot `s` lies inside the staging buffer of the down-projection. -/
theorem slotInbB (s : Fin 2) : ∀ a, (![s.val, 0, 0] : Fin 3 → Nat) a + S1x256x1024.size a ≤ S2x256x1024.size a := by
  have := s.isLt; intro a; fin_cases a
  · show s.val + 1 ≤ 2; omega
  · show 0 + 256 ≤ 256; omega
  · show 0 + 1024 ≤ 1024; omega
/-- Block `b` of 128 rows lies inside an up-projection. -/
theorem blkInbA (b : Fin 8) : ∀ a, (![128 * b.val, 0] : Fin 2 → Nat) a + S128x4096.size a ≤ S1024x4096.size a := by
  have := b.isLt; intro a; fin_cases a
  · show 128 * b.val + 128 ≤ 1024; omega
  · show 0 + 4096 ≤ 4096; omega
/-- Block `b` of 256 rows lies inside the down-projection. -/
theorem blkInbB (b : Fin 16) : ∀ a, (![256 * b.val, 0] : Fin 2 → Nat) a + S256x1024.size a ≤ S4096x1024.size a := by
  have := b.isLt; intro a; fin_cases a
  · show 256 * b.val + 256 ≤ 4096; omega
  · show 0 + 1024 ≤ 1024; omega

/-- Slot `s`'s semaphore. -/
def csm (s : Fin 2) : DmaSems sig S_ := (cc0_scratch5.slice (Rect.unit (s := S2) ![s.val] S1.size (semInb s))).squeeze S_ squeezes_S1_S_
/-- Slot `s` of the staging buffer of the two up-projections. -/
def slotA (s : Fin 2) : Memref sig .tc .vmem S128x4096 .f32 :=
  (bufA.slice (Rect.unit (s := S2x128x4096) ![s.val, 0, 0] S1x128x4096.size (slotInbA s)) (fun _ => rfl)).squeeze S128x4096 squeezes_S1x128x4096_S128x4096
/-- Slot `s` of the staging buffer of the down-projection. -/
def slotB (s : Fin 2) : Memref sig .tc .vmem S256x1024 .f32 :=
  (bufB.slice (Rect.unit (s := S2x256x1024) ![s.val, 0, 0] S1x256x1024.size (slotInbB s)) (fun _ => rfl)).squeeze S256x1024 squeezes_S1x256x1024_S256x1024
/-- Block `b` (128 rows) of an up-projection's weight. -/
def blkA (M : Memref sig .tc .hbm S1024x4096 .f32) (b : Fin 8) : Memref sig .tc .hbm S128x4096 .f32 :=
  M.slice (Rect.unit (s := S1024x4096) ![128 * b.val, 0] S128x4096.size (blkInbA b)) (fun _ => rfl)
/-- Block `b` (256 rows) of the down-projection's weight. -/
def blkB (M : Memref sig .tc .hbm S4096x1024 .f32) (b : Fin 16) : Memref sig .tc .hbm S256x1024 .f32 :=
  M.slice (Rect.unit (s := S4096x1024) ![256 * b.val, 0] S256x1024.size (blkInbB b)) (fun _ => rfl)

/-- A printed semaphore slice at slot `s`'s offset is slot `s`'s semaphore. -/
theorem csm_congr {off : Fin 1 → Nat} {s : Fin 2} (e : off = ![s.val]) (hh) :
    (cc0_scratch5.slice (Rect.unit (s := S2) off S1.size hh)).squeeze S_ squeezes_S1_S_ = csm s :=
  congrArg (fun A : DmaSems sig S1 => A.squeeze S_ squeezes_S1_S_) (SemArray.slice_unit_congr _ e _ _)
/-- A printed slice at slot `s`'s offset is slot `s` of the up-projections' buffer. -/
theorem slotA_congr {off : Fin 3 → Nat} {s : Fin 2} (e : off = ![s.val, 0, 0]) (hh hs) :
    (bufA.slice (Rect.unit (s := S2x128x4096) off S1x128x4096.size hh) hs).squeeze S128x4096 squeezes_S1x128x4096_S128x4096 = slotA s :=
  congrArg (fun M : Memref sig .tc .vmem S1x128x4096 .f32 => M.squeeze S128x4096 squeezes_S1x128x4096_S128x4096) (Memref.slice_unit_congr _ e _ _ _ _)
/-- A printed slice at slot `s`'s offset is slot `s` of the down-projection's buffer. -/
theorem slotB_congr {off : Fin 3 → Nat} {s : Fin 2} (e : off = ![s.val, 0, 0]) (hh hs) :
    (bufB.slice (Rect.unit (s := S2x256x1024) off S1x256x1024.size hh) hs).squeeze S256x1024 squeezes_S1x256x1024_S256x1024 = slotB s :=
  congrArg (fun M : Memref sig .tc .vmem S1x256x1024 .f32 => M.squeeze S256x1024 squeezes_S1x256x1024_S256x1024) (Memref.slice_unit_congr _ e _ _ _ _)
/-- A printed slice at block `b`'s offset is block `b` of an up-projection. -/
theorem blkA_congr (M : Memref sig .tc .hbm S1024x4096 .f32) {off : Fin 2 → Nat} {b : Fin 8} (e : off = ![128 * b.val, 0]) (hh hs) :
    M.slice (Rect.unit (s := S1024x4096) off S128x4096.size hh) hs = blkA M b := Memref.slice_unit_congr _ e _ _ hs (fun _ => rfl)
/-- A printed slice at block `b`'s offset is block `b` of the down-projection. -/
theorem blkB_congr (M : Memref sig .tc .hbm S4096x1024 .f32) {off : Fin 2 → Nat} {b : Fin 16} (e : off = ![256 * b.val, 0]) (hh hs) :
    M.slice (Rect.unit (s := S4096x1024) off S256x1024.size hh) hs = blkB M b := Memref.slice_unit_congr _ e _ _ hs (fun _ => rfl)

/-- A slot's offset is closed. -/
instance (s : Fin 2) : ClosedOff (![s.val, 0, 0] : Fin 3 → Nat) := ⟨![s.val, 0, 0], rfl⟩
/-- The load of trip `k` reads the slot the trip waited for. -/
instance (k : Fin k0_t1_loop.trips) : ClosedOff (k0_off7 k) := ⟨![(Ring.sl 2 k.val).val, 0, 0], k0_off7_eq k⟩
/-- The load of trip `k` of the second loop reads the slot the trip waited for. -/
instance (k : Fin k0_t2_loop.trips) : ClosedOff (k0_off15 k) := ⟨![(Ring.sl 2 k.val).val, 0, 0], k0_off15_eq k⟩
/-- The load of trip `k` of the third loop reads the slot the trip waited for. -/
instance (k : Fin k0_t3_loop.trips) : ClosedOff (k0_off23 k) := ⟨![(Ring.sl 2 k.val).val, 0, 0], k0_off23_eq k⟩

/-! ## The equations of the printed slices -/

section Canon

/-- The first copy signals the semaphore of slot 0. -/
@[sl_canon] theorem sem0 (hh) : (cc0_scratch5.slice (Rect.unit (s := S2) ![0] S1.size hh)).squeeze S_ squeezes_S1_S_ = csm 0 := csm_congr (by decide) _
/-- The first copy of an up-projection fills slot 0. -/
@[sl_canon] theorem slotA0 (hh hs) : (bufA.slice (Rect.unit (s := S2x128x4096) ![0, 0, 0] S1x128x4096.size hh) hs).squeeze S128x4096 squeezes_S1x128x4096_S128x4096 = slotA 0 := slotA_congr (by decide) _ _
/-- The first copy of the down-projection fills slot 0. -/
@[sl_canon] theorem slotB0 (hh hs) : (bufB.slice (Rect.unit (s := S2x256x1024) ![0, 0, 0] S1x256x1024.size hh) hs).squeeze S256x1024 squeezes_S1x256x1024_S256x1024 = slotB 0 := slotB_congr (by decide) _ _
/-- The first copy of an up-projection reads block 0. -/
@[sl_canon] theorem blkA0 (M : Memref sig .tc .hbm S1024x4096 .f32) (hh hs) : M.slice (Rect.unit (s := S1024x4096) ![0, 0] S128x4096.size hh) hs = blkA M 0 := blkA_congr M (by decide) _ _
/-- The first copy of the down-projection reads block 0. -/
@[sl_canon] theorem blkB0 (M : Memref sig .tc .hbm S4096x1024 .f32) (hh hs) : M.slice (Rect.unit (s := S4096x1024) ![0, 0] S256x1024.size hh) hs = blkB M 0 := blkB_congr M (by decide) _ _

/-- The first loop's trips are below 8. -/
theorem lt1 (k : Fin k0_t1_loop.trips) : k.val < 8 := Nat.lt_of_lt_of_le k.isLt k0_t1_abs.2.1
/-- The second loop's trips are below 8. -/
theorem lt2 (k : Fin k0_t2_loop.trips) : k.val < 8 := Nat.lt_of_lt_of_le k.isLt k0_t2_abs.2.1
/-- The third loop's trips are below 16. -/
theorem lt3 (k : Fin k0_t3_loop.trips) : k.val < 16 := Nat.lt_of_lt_of_le k.isLt k0_t3_abs.2.1

variable (M : Memref sig .tc .hbm S1024x4096 .f32) (N : Memref sig .tc .hbm S4096x1024 .f32)
  (k₁ : Fin k0_t1_loop.trips) (k₂ : Fin k0_t2_loop.trips) (k₃ : Fin k0_t3_loop.trips)

/-- The copy trip `k` of the first loop starts signals the semaphore of the next slot. -/
@[sl_canon] theorem semI1 (hh) : (cc0_scratch5.slice (Rect.unit (s := S2) (k0_off1 k₁) S1.size hh)).squeeze S_ squeezes_S1_S_ = csm (Ring.sl 2 (k₁.val + 1)) :=
  csm_congr (k0_off1_eq k₁) _
/-- The copy trip `k` of the first loop starts fills the next slot. -/
@[sl_canon] theorem slotI1 (hh hs) : (bufA.slice (Rect.unit (s := S2x128x4096) (k0_off2 k₁) S1x128x4096.size hh) hs).squeeze S128x4096 squeezes_S1x128x4096_S128x4096 = slotA (Ring.sl 2 (k₁.val + 1)) :=
  slotA_congr (k0_off2_eq k₁) _ _
/-- The copy trip `k` of the first loop starts reads block `k + 1`. -/
@[sl_canon] theorem blkI1 (h : k₁.val + 1 < 8) (hh hs) : M.slice (Rect.unit (s := S1024x4096) (k0_off3 k₁) S128x4096.size hh) hs = blkA M (Ring.bk 8 (k₁.val + 1)) :=
  blkA_congr M ((k0_off3_eq k₁).trans (by rw [Ring.bk_val h, Nat.mul_add])) _ _
/-- Trip `k` of the first loop waits on the semaphore of its own slot. -/
@[sl_canon] theorem semW1 (hh) : (cc0_scratch5.slice (Rect.unit (s := S2) (k0_off4 k₁) S1.size hh)).squeeze S_ squeezes_S1_S_ = csm (Ring.sl 2 k₁.val) :=
  csm_congr (k0_off4_eq k₁) _
/-- Trip `k` of the first loop waits for its own slot. -/
@[sl_canon] theorem slotW1 (hh hs) : (bufA.slice (Rect.unit (s := S2x128x4096) (k0_off5 k₁) S1x128x4096.size hh) hs).squeeze S128x4096 squeezes_S1x128x4096_S128x4096 = slotA (Ring.sl 2 k₁.val) :=
  slotA_congr (k0_off5_eq k₁) _ _
/-- Trip `k` of the first loop waits for block `k`. -/
@[sl_canon] theorem blkW1 (hh hs) : M.slice (Rect.unit (s := S1024x4096) (k0_off6 k₁) S128x4096.size hh) hs = blkA M (Ring.bk 8 k₁.val) :=
  blkA_congr M ((k0_off6_eq k₁).trans (by rw [Ring.bk_val (lt1 k₁)])) _ _

/-- The copy trip `k` of the second loop starts signals the semaphore of the next slot. -/
@[sl_canon] theorem semI2 (hh) : (cc0_scratch5.slice (Rect.unit (s := S2) (k0_off9 k₂) S1.size hh)).squeeze S_ squeezes_S1_S_ = csm (Ring.sl 2 (k₂.val + 1)) :=
  csm_congr (k0_off9_eq k₂) _
/-- The copy trip `k` of the second loop starts fills the next slot. -/
@[sl_canon] theorem slotI2 (hh hs) : (bufA.slice (Rect.unit (s := S2x128x4096) (k0_off10 k₂) S1x128x4096.size hh) hs).squeeze S128x4096 squeezes_S1x128x4096_S128x4096 = slotA (Ring.sl 2 (k₂.val + 1)) :=
  slotA_congr (k0_off10_eq k₂) _ _
/-- The copy trip `k` of the second loop starts reads block `k + 1`. -/
@[sl_canon] theorem blkI2 (h : k₂.val + 1 < 8) (hh hs) : M.slice (Rect.unit (s := S1024x4096) (k0_off11 k₂) S128x4096.size hh) hs = blkA M (Ring.bk 8 (k₂.val + 1)) :=
  blkA_congr M ((k0_off11_eq k₂).trans (by rw [Ring.bk_val h, Nat.mul_add])) _ _
/-- Trip `k` of the second loop waits on the semaphore of its own slot. -/
@[sl_canon] theorem semW2 (hh) : (cc0_scratch5.slice (Rect.unit (s := S2) (k0_off12 k₂) S1.size hh)).squeeze S_ squeezes_S1_S_ = csm (Ring.sl 2 k₂.val) :=
  csm_congr (k0_off12_eq k₂) _
/-- Trip `k` of the second loop waits for its own slot. -/
@[sl_canon] theorem slotW2 (hh hs) : (bufA.slice (Rect.unit (s := S2x128x4096) (k0_off13 k₂) S1x128x4096.size hh) hs).squeeze S128x4096 squeezes_S1x128x4096_S128x4096 = slotA (Ring.sl 2 k₂.val) :=
  slotA_congr (k0_off13_eq k₂) _ _
/-- Trip `k` of the second loop waits for block `k`. -/
@[sl_canon] theorem blkW2 (hh hs) : M.slice (Rect.unit (s := S1024x4096) (k0_off14 k₂) S128x4096.size hh) hs = blkA M (Ring.bk 8 k₂.val) :=
  blkA_congr M ((k0_off14_eq k₂).trans (by rw [Ring.bk_val (lt2 k₂)])) _ _

/-- The copy trip `k` of the third loop starts signals the semaphore of the next slot. -/
@[sl_canon] theorem semI3 (hh) : (cc0_scratch5.slice (Rect.unit (s := S2) (k0_off17 k₃) S1.size hh)).squeeze S_ squeezes_S1_S_ = csm (Ring.sl 2 (k₃.val + 1)) :=
  csm_congr (k0_off17_eq k₃) _
/-- The copy trip `k` of the third loop starts fills the next slot. -/
@[sl_canon] theorem slotI3 (hh hs) : (bufB.slice (Rect.unit (s := S2x256x1024) (k0_off18 k₃) S1x256x1024.size hh) hs).squeeze S256x1024 squeezes_S1x256x1024_S256x1024 = slotB (Ring.sl 2 (k₃.val + 1)) :=
  slotB_congr (k0_off18_eq k₃) _ _
/-- The copy trip `k` of the third loop starts reads block `k + 1`. -/
@[sl_canon] theorem blkI3 (h : k₃.val + 1 < 16) (hh hs) : N.slice (Rect.unit (s := S4096x1024) (k0_off19 k₃) S256x1024.size hh) hs = blkB N (Ring.bk 16 (k₃.val + 1)) :=
  blkB_congr N ((k0_off19_eq k₃).trans (by rw [Ring.bk_val h, Nat.mul_add])) _ _
/-- Trip `k` of the third loop waits on the semaphore of its own slot. -/
@[sl_canon] theorem semW3 (hh) : (cc0_scratch5.slice (Rect.unit (s := S2) (k0_off20 k₃) S1.size hh)).squeeze S_ squeezes_S1_S_ = csm (Ring.sl 2 k₃.val) :=
  csm_congr (k0_off20_eq k₃) _
/-- Trip `k` of the third loop waits for its own slot. -/
@[sl_canon] theorem slotW3 (hh hs) : (bufB.slice (Rect.unit (s := S2x256x1024) (k0_off21 k₃) S1x256x1024.size hh) hs).squeeze S256x1024 squeezes_S1x256x1024_S256x1024 = slotB (Ring.sl 2 k₃.val) :=
  slotB_congr (k0_off21_eq k₃) _ _
/-- Trip `k` of the third loop waits for block `k`. -/
@[sl_canon] theorem blkW3 (hh hs) : N.slice (Rect.unit (s := S4096x1024) (k0_off22 k₃) S256x1024.size hh) hs = blkB N (Ring.bk 16 k₃.val) :=
  blkB_congr N ((k0_off22_eq k₃).trans (by rw [Ring.bk_val (lt3 k₃)])) _ _

end Canon

end Cert.Proof.KernelIdealRing

end
-- ==== Proof.Trips.lean ====
module

public import proofs.«01_k».proof.Proof.Ring
public import Idealize.ShloMosaic.Lib.WritesUnit
public import Idealize.ShloMosaic.Lib.Pipeline.Value

@[expose] public section

noncomputable section

namespace Cert.Proof.KernelIdealRing

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ## The pieces of the ring -/

section Pieces
variable (c : Dev nD)

/-- Slot `s`'s semaphore at zero. -/
abbrev cellP (s : Fin 2) : sProp 𝕄 := semVal ((c : Thread nD τ), SemLoc.dma (csm s).sem) 0

/-- The gate projection, whole. -/
abbrev wg : Memref sig .tc .hbm S1024x4096 .f32 := Memref.whole main_arg1
/-- The up projection, whole. -/
abbrev wu : Memref sig .tc .hbm S1024x4096 .f32 := Memref.whole main_arg2
/-- The down projection, whole. -/
abbrev wd : Memref sig .tc .hbm S4096x1024 .f32 := Memref.whole main_arg3

/-- Slot `s` held at some contents (the staging buffer of the two up-projections). -/
abbrev slotPA (s : Fin 2) (f : Buf (Elt F) ((slotA s).view.loc (c : Thread nD τ))) : sProp 𝕄 :=
  (slotA s).view.loc (c : Thread nD τ) ↦[(slotA s).view.set]{fullShare} f
/-- Slot `s` of the up-projections' buffer at rest: its semaphore at zero, its contents anything. -/
abbrev freeA (s : Fin 2) : sProp 𝕄 := iprop(cellP c s ∗ ∃ f, slotPA c s f)

variable (M : Memref sig .tc .hbm S1024x4096 .f32) (X : Buf (Elt F) (M.view.loc (c : Thread nD τ)))

/-- Block `b` of the weight at home. -/
abbrev homePA (b : Fin 8) : sProp 𝕄 := (blkA M b).view.loc (c : Thread nD τ) ↦[(blkA M b).view.set]{fullShare} X
/-- Block `b` of the weight in flight into slot `s`. -/
abbrev flightPA (s : Fin 2) (b : Fin 8) (f : Buf (Elt F) ((slotA s).view.loc (c : Thread nD τ))) : sProp 𝕄 :=
  Transfers.Flight countersEmb (c : Thread nD τ) (SemLoc.dma (csm s).sem) () 65536
    iprop(slotPA c s ((slotA s).view.writes (Elt F) f [⟨Rect.whole S128x4096, ReadAs.same.apply ((blkA M b).view.read (Elt F) X)⟩]) ∗ homePA c M X b)

/-- The whole weight as the kernel stages it: every entry cast. -/
def castA : S1024x4096.Idx → Elt F .bf16 := truncf .bf16 (M.view.read (Elt F) X : FVec F S1024x4096 .f32) bitsLt_bf16_f32

variable (D : Memref sig .tc .vmem S1024x4096 .bf16)

/-- The first `k` blocks of the destination hold the cast weight. -/
def RowsA (k : ℕ) (f : Buf (Elt F) (D.view.loc (c : Thread nD τ))) : Prop :=
  ∀ y : S1024x4096.Idx, (y 0).val < 128 * k → D.view.read (Elt F) f y = castA c M X y

/-- What the destination, the weight, the two slots and their semaphores are before trip `k`: block `k` in flight
    while it exists, the other slot free, every other block at home, the first `k` blocks cast into the destination. -/
def resA (k : ℕ) : sProp 𝕄 :=
  iprop((∃ f, (D.view.loc (c : Thread nD τ) ↦[D.view.set]{fullShare} f) ∗ ⌜RowsA c M X D k f⌝) ∗ (∃ W, owes (c : Thread nD τ) 0 W)
    ∗ bigSep (Ring.homeSet 1 k) (homePA c M X)
    ∗ Ring.roleAt (freeA c (Ring.sl 2 k)) (fun b : Fin 8 => iprop(∃ f, flightPA c M X (Ring.sl 2 k) b f)) k
    ∗ freeA c (Ring.sl 2 (k + 1)))

/-- What the load of slot `s` hands the cast, after block `b` landed there. -/
abbrev gotA (s : Fin 2) (b : Fin 8) (off : Fin 3 → ℕ) (hh : ∀ a, off a + S1x128x4096.size a ≤ S2x128x4096.size a) : S1x128x4096.Idx → Elt F .f32 :=
  View.readAt (Elt F) bufA.view (Rect.unit (s := S2x128x4096) off S1x128x4096.size hh).toLoadRect
    ((slotA s).view.writes (Elt F) (slotA s).view.junk [⟨Rect.whole S128x4096, ReadAs.same.apply ((blkA M b).view.read (Elt F) X)⟩])

/-- The cast of it, entry by entry, is the block of the cast weight. -/
theorem castA_got (s : Fin 2) (b : Fin 8) (off : Fin 3 → ℕ) (hh) (e : off = ![s.val, 0, 0])
    (h1 : S1x128x4096.ShapeCasts S128x4096) (h2 : S128x4096.ShapeCasts S128x4096) (y : S128x4096.Idx) :
    shapeCast S128x4096 (truncf .bf16 (shapeCast S128x4096 (gotA c M X s b off hh) h1 : FVec F S128x4096 .f32) bitsLt_bf16_f32) h2 y
      = castA c M X ((Rect.unit (s := S1024x4096) ![128 * b.val, 0] S128x4096.size (blkInbA b)).emb y) := by
  subst e
  rw [shapeCast_self]
  have h : ∀ g, shapeCast S128x4096 (View.readAt (Elt F) bufA.view (Rect.unit (s := S2x128x4096) ![s.val, 0, 0] S1x128x4096.size hh).toLoadRect g) h1
      = (slotA s).view.read (Elt F) g := fun g => rfl
  have h' : (shapeCast S128x4096 (gotA c M X s b ![s.val, 0, 0] hh) h1 : S128x4096.Idx → Elt F .f32) = (blkA M b).view.read (Elt F) X :=
    (h _).trans (View.read_writes_whole _ _ _)
  have h2 : (shapeCast S128x4096 (gotA c M X s b ![s.val, 0, 0] hh) h1 : S128x4096.Idx → Elt F .f32) y
      = M.view.read (Elt F) X ((Rect.unit (s := S1024x4096) ![128 * b.val, 0] S128x4096.size (blkInbA b)).emb y) := (congrFun h' y).trans rfl
  unfold castA truncf
  dsimp only
  exact congrArg _ h2

/-- While a next block of the up-projection remains, the blocks at home are that block and the others. -/
theorem homesA_here (P : Fin 8 → sProp 𝕄) (k : ℕ) (hk : k + 1 < 8) :
    bigSep (Ring.homeSet 1 k) P = iprop(P (Ring.bk 8 (k + 1)) ∗ bigSep ((Ring.homeSet 1 k).erase (Ring.bk 8 (k + 1))) P) := by
  conv_lhs => rw [Ring.homeSet_out 1 k hk, bigSep_insert (Ring.bkL_not_mem_erase 1 k)]
  rfl

/-- One trip on, block `k` of the up-projection is home again and block `k + 1` has left. -/
theorem homesA_next (P : Fin 8 → sProp 𝕄) (k : ℕ) (hk : k + 1 < 8) :
    bigSep (Ring.homeSet 1 (k + 1)) P = iprop(P (Ring.bk 8 k) ∗ bigSep ((Ring.homeSet 1 k).erase (Ring.bk 8 (k + 1))) P) := by
  rw [Ring.homeSet_succ 1 k hk, bigSep_insert (Ring.bk_not_mem_erase 1 k (by omega) (by decide))]; rfl

/-- After the last trip every block of the up-projection is at home. -/
theorem homesA_all (P : Fin 8 → sProp 𝕄) : bigSep (Ring.homeSet 1 8) P = bigSep Finset.univ P := by
  have e : Ring.homeSet (NB := 8) 1 8 = Finset.univ := by
    ext b; simp only [Finset.mem_univ, Ring.mem_homeSet, iff_true]; have := b.isLt; omega
  rw [e]

/-- After the last trip: the destination is the cast weight, every block is at home, both slots are free. -/
theorem resA_exit : resA c M X D 8 ⊢ iprop((∃ f, (D.view.loc (c : Thread nD τ) ↦[D.view.set]{fullShare} f) ∗ ⌜D.view.read (Elt F) f = castA c M X⌝)
    ∗ (∃ W, owes (c : Thread nD τ) 0 W) ∗ bigSep Finset.univ (homePA c M X) ∗ cellP c 0 ∗ cellP c 1 ∗ (∃ f, slotPA c 0 f) ∗ (∃ f, slotPA c 1 f)) := by
  unfold resA
  rw [Ring.roleAt_of_le _ _ 8 (by decide), show Ring.sl 2 8 = 0 from by decide, show Ring.sl 2 (8 + 1) = 1 from by decide, homesA_all]
  iintro ⟨⟨%f, HD, %hf⟩, HW, Hh, ⟨Hc0, Hs0⟩, ⟨Hc1, Hs1⟩⟩
  isplitl [HD]
  · iexists f
    isplitl [HD]; · iexact HD
    ipureintro
    exact funext fun y => hf y (by have := (y 0).isLt; exact this)
  isplitl [HW]; · iexact HW
  isplitl [Hh]; · iexact Hh
  isplitl [Hc0]; · iexact Hc0
  isplitl [Hc1]; · iexact Hc1
  isplitl [Hs0]; · iexact Hs0
  iexact Hs1

/-- In the last trip block `k` of the up-projection comes home and none leaves. -/
theorem homesA_tail (P : Fin 8 → sProp 𝕄) (k : ℕ) (hk : 8 ≤ k + 1) (hk' : k < 8) :
    bigSep (Ring.homeSet 1 (k + 1)) P = iprop(P (Ring.bk 8 k) ∗ bigSep (Ring.homeSet 1 k) P) := by
  rw [Ring.homeSet_succ_tail 1 k hk hk', bigSep_insert (Ring.bk_not_mem_homeSet 1 k hk' (by decide))]; rfl

/-- One more block stored: one more block cast. -/
theorem RowsA_succ (k : ℕ) (hk : k < 8) (f : Buf (Elt F) (D.view.loc (c : Thread nD τ))) (h : RowsA c M X D k f)
    (off : Fin 2 → ℕ) (hh) (e : off = ![128 * k, 0]) (w : S128x4096.Idx → Elt F .bf16)
    (hw : ∀ y, w y = castA c M X ((Rect.unit (s := S1024x4096) ![128 * (Ring.bk 8 k).val, 0] S128x4096.size (blkInbA (Ring.bk 8 k))).emb y)) :
    RowsA c M X D (k + 1) (D.view.writes (Elt F) f [⟨Rect.unit (s := S1024x4096) off S128x4096.size hh, w⟩]) := by
  intro y hy
  by_cases hlt : (y 0).val < 128 * k
  · rw [View.read_writes_cons_unit_of_not_mem D.view f hh w [] y e 0 (Or.inl hlt)]
    exact h y hlt
  · have hx : ∀ a : Fin 2, (![128 * k, 0] : Fin 2 → ℕ) a ≤ (y a).val ∧ (y a).val < (![128 * k, 0] : Fin 2 → ℕ) a + S128x4096.size a := by
      have h1 : (y 1).val < 4096 := (y 1).isLt
      intro a; fin_cases a
      · show 128 * k ≤ (y 0).val ∧ (y 0).val < 128 * k + 128; omega
      · show 0 ≤ (y 1).val ∧ (y 1).val < 0 + 4096; omega
    rw [View.read_writes_cons_unit D.view f hh w [] y e, dif_pos hx, hw]
    refine congrArg (castA c M X) (funext fun a => Fin.ext ?_)
    have hx0 := (hx 0).1
    fin_cases a
    · show 128 * (Ring.bk 8 k).val + 1 * ((y 0).val - 128 * k) = (y 0).val
      rw [Ring.bk_val hk]; have : 128 * k ≤ (y 0).val := hx0; omega
    · show 0 + 1 * ((y 1).val - 0) = (y 1).val; omega

end Pieces

section PiecesB
variable (c : Dev nD)

/-- Slot `s` held at some contents (the staging buffer of the down-projection). -/
abbrev slotPB (s : Fin 2) (f : Buf (Elt F) ((slotB s).view.loc (c : Thread nD τ))) : sProp 𝕄 :=
  (slotB s).view.loc (c : Thread nD τ) ↦[(slotB s).view.set]{fullShare} f
/-- Slot `s` of the down-projection's buffer at rest: its semaphore at zero, its contents anything. -/
abbrev freeB (s : Fin 2) : sProp 𝕄 := iprop(cellP c s ∗ ∃ f, slotPB c s f)

variable (M : Memref sig .tc .hbm S4096x1024 .f32) (X : Buf (Elt F) (M.view.loc (c : Thread nD τ)))

/-- Block `b` of the weight at home. -/
abbrev homePB (b : Fin 16) : sProp 𝕄 := (blkB M b).view.loc (c : Thread nD τ) ↦[(blkB M b).view.set]{fullShare} X
/-- Block `b` of the weight in flight into slot `s`. -/
abbrev flightPB (s : Fin 2) (b : Fin 16) (f : Buf (Elt F) ((slotB s).view.loc (c : Thread nD τ))) : sProp 𝕄 :=
  Transfers.Flight countersEmb (c : Thread nD τ) (SemLoc.dma (csm s).sem) () 32768
    iprop(slotPB c s ((slotB s).view.writes (Elt F) f [⟨Rect.whole S256x1024, ReadAs.same.apply ((blkB M b).view.read (Elt F) X)⟩]) ∗ homePB c M X b)

/-- The whole weight as the kernel stages it: every entry cast. -/
def castB : S4096x1024.Idx → Elt F .bf16 := truncf .bf16 (M.view.read (Elt F) X : FVec F S4096x1024 .f32) bitsLt_bf16_f32

variable (D : Memref sig .tc .vmem S4096x1024 .bf16)

/-- The first `k` blocks of the destination hold the cast weight. -/
def RowsB (k : ℕ) (f : Buf (Elt F) (D.view.loc (c : Thread nD τ))) : Prop :=
  ∀ y : S4096x1024.Idx, (y 0).val < 256 * k → D.view.read (Elt F) f y = castB c M X y

/-- What the destination, the weight, the two slots and their semaphores are before trip `k`: block `k` in flight
    while it exists, the other slot free, every other block at home, the first `k` blocks cast into the destination. -/
def resB (k : ℕ) : sProp 𝕄 :=
  iprop((∃ f, (D.view.loc (c : Thread nD τ) ↦[D.view.set]{fullShare} f) ∗ ⌜RowsB c M X D k f⌝) ∗ (∃ W, owes (c : Thread nD τ) 0 W)
    ∗ bigSep (Ring.homeSet 1 k) (homePB c M X)
    ∗ Ring.roleAt (freeB c (Ring.sl 2 k)) (fun b : Fin 16 => iprop(∃ f, flightPB c M X (Ring.sl 2 k) b f)) k
    ∗ freeB c (Ring.sl 2 (k + 1)))

/-- What the load of slot `s` hands the cast, after block `b` landed there. -/
abbrev gotB (s : Fin 2) (b : Fin 16) (off : Fin 3 → ℕ) (hh : ∀ a, off a + S1x256x1024.size a ≤ S2x256x1024.size a) : S1x256x1024.Idx → Elt F .f32 :=
  View.readAt (Elt F) bufB.view (Rect.unit (s := S2x256x1024) off S1x256x1024.size hh).toLoadRect
    ((slotB s).view.writes (Elt F) (slotB s).view.junk [⟨Rect.whole S256x1024, ReadAs.same.apply ((blkB M b).view.read (Elt F) X)⟩])

/-- The cast of it, entry by entry, is the block of the cast weight. -/
theorem castB_got (s : Fin 2) (b : Fin 16) (off : Fin 3 → ℕ) (hh) (e : off = ![s.val, 0, 0])
    (h1 : S1x256x1024.ShapeCasts S256x1024) (h2 : S256x1024.ShapeCasts S256x1024) (y : S256x1024.Idx) :
    shapeCast S256x1024 (truncf .bf16 (shapeCast S256x1024 (gotB c M X s b off hh) h1 : FVec F S256x1024 .f32) bitsLt_bf16_f32) h2 y
      = castB c M X ((Rect.unit (s := S4096x1024) ![256 * b.val, 0] S256x1024.size (blkInbB b)).emb y) := by
  subst e
  rw [shapeCast_self]
  have h : ∀ g, shapeCast S256x1024 (View.readAt (Elt F) bufB.view (Rect.unit (s := S2x256x1024) ![s.val, 0, 0] S1x256x1024.size hh).toLoadRect g) h1
      = (slotB s).view.read (Elt F) g := fun g => rfl
  have h' : (shapeCast S256x1024 (gotB c M X s b ![s.val, 0, 0] hh) h1 : S256x1024.Idx → Elt F .f32) = (blkB M b).view.read (Elt F) X :=
    (h _).trans (View.read_writes_whole _ _ _)
  have h2 : (shapeCast S256x1024 (gotB c M X s b ![s.val, 0, 0] hh) h1 : S256x1024.Idx → Elt F .f32) y
      = M.view.read (Elt F) X ((Rect.unit (s := S4096x1024) ![256 * b.val, 0] S256x1024.size (blkInbB b)).emb y) := (congrFun h' y).trans rfl
  unfold castB truncf
  dsimp only
  exact congrArg _ h2

/-- While a next block of the down-projection remains, the blocks at home are that block and the others. -/
theorem homesB_here (P : Fin 16 → sProp 𝕄) (k : ℕ) (hk : k + 1 < 16) :
    bigSep (Ring.homeSet 1 k) P = iprop(P (Ring.bk 16 (k + 1)) ∗ bigSep ((Ring.homeSet 1 k).erase (Ring.bk 16 (k + 1))) P) := by
  conv_lhs => rw [Ring.homeSet_out 1 k hk, bigSep_insert (Ring.bkL_not_mem_erase 1 k)]
  rfl

/-- One trip on, block `k` of the down-projection is home again and block `k + 1` has left. -/
theorem homesB_next (P : Fin 16 → sProp 𝕄) (k : ℕ) (hk : k + 1 < 16) :
    bigSep (Ring.homeSet 1 (k + 1)) P = iprop(P (Ring.bk 16 k) ∗ bigSep ((Ring.homeSet 1 k).erase (Ring.bk 16 (k + 1))) P) := by
  rw [Ring.homeSet_succ 1 k hk, bigSep_insert (Ring.bk_not_mem_erase 1 k (by omega) (by decide))]; rfl

/-- After the last trip every block of the down-projection is at home. -/
theorem homesB_all (P : Fin 16 → sProp 𝕄) : bigSep (Ring.homeSet 1 16) P = bigSep Finset.univ P := by
  have e : Ring.homeSet (NB := 16) 1 16 = Finset.univ := by
    ext b; simp only [Finset.mem_univ, Ring.mem_homeSet, iff_true]; have := b.isLt; omega
  rw [e]

/-- After the last trip: the destination is the cast weight, every block is at home, both slots are free. -/
theorem resB_exit : resB c M X D 16 ⊢ iprop((∃ f, (D.view.loc (c : Thread nD τ) ↦[D.view.set]{fullShare} f) ∗ ⌜D.view.read (Elt F) f = castB c M X⌝)
    ∗ (∃ W, owes (c : Thread nD τ) 0 W) ∗ bigSep Finset.univ (homePB c M X) ∗ cellP c 0 ∗ cellP c 1 ∗ (∃ f, slotPB c 0 f) ∗ (∃ f, slotPB c 1 f)) := by
  unfold resB
  rw [Ring.roleAt_of_le _ _ 16 (by decide), show Ring.sl 2 16 = 0 from by decide, show Ring.sl 2 (16 + 1) = 1 from by decide, homesB_all]
  iintro ⟨⟨%f, HD, %hf⟩, HW, Hh, ⟨Hc0, Hs0⟩, ⟨Hc1, Hs1⟩⟩
  isplitl [HD]
  · iexists f
    isplitl [HD]; · iexact HD
    ipureintro
    exact funext fun y => hf y (by have := (y 0).isLt; exact this)
  isplitl [HW]; · iexact HW
  isplitl [Hh]; · iexact Hh
  isplitl [Hc0]; · iexact Hc0
  isplitl [Hc1]; · iexact Hc1
  isplitl [Hs0]; · iexact Hs0
  iexact Hs1

/-- In the last trip block `k` of the down-projection comes home and none leaves. -/
theorem homesB_tail (P : Fin 16 → sProp 𝕄) (k : ℕ) (hk : 16 ≤ k + 1) (hk' : k < 16) :
    bigSep (Ring.homeSet 1 (k + 1)) P = iprop(P (Ring.bk 16 k) ∗ bigSep (Ring.homeSet 1 k) P) := by
  rw [Ring.homeSet_succ_tail 1 k hk hk', bigSep_insert (Ring.bk_not_mem_homeSet 1 k hk' (by decide))]; rfl

/-- One more block stored: one more block cast. -/
theorem RowsB_succ (k : ℕ) (hk : k < 16) (f : Buf (Elt F) (D.view.loc (c : Thread nD τ))) (h : RowsB c M X D k f)
    (off : Fin 2 → ℕ) (hh) (e : off = ![256 * k, 0]) (w : S256x1024.Idx → Elt F .bf16)
    (hw : ∀ y, w y = castB c M X ((Rect.unit (s := S4096x1024) ![256 * (Ring.bk 16 k).val, 0] S256x1024.size (blkInbB (Ring.bk 16 k))).emb y)) :
    RowsB c M X D (k + 1) (D.view.writes (Elt F) f [⟨Rect.unit (s := S4096x1024) off S256x1024.size hh, w⟩]) := by
  intro y hy
  by_cases hlt : (y 0).val < 256 * k
  · rw [View.read_writes_cons_unit_of_not_mem D.view f hh w [] y e 0 (Or.inl hlt)]
    exact h y hlt
  · have hx : ∀ a : Fin 2, (![256 * k, 0] : Fin 2 → ℕ) a ≤ (y a).val ∧ (y a).val < (![256 * k, 0] : Fin 2 → ℕ) a + S256x1024.size a := by
      have h1 : (y 1).val < 1024 := (y 1).isLt
      intro a; fin_cases a
      · show 256 * k ≤ (y 0).val ∧ (y 0).val < 256 * k + 256; omega
      · show 0 ≤ (y 1).val ∧ (y 1).val < 0 + 1024; omega
    rw [View.read_writes_cons_unit D.view f hh w [] y e, dif_pos hx, hw]
    refine congrArg (castB c M X) (funext fun a => Fin.ext ?_)
    have hx0 := (hx 0).1
    fin_cases a
    · show 256 * (Ring.bk 16 k).val + 1 * ((y 0).val - 256 * k) = (y 0).val
      rw [Ring.bk_val hk]; have : 256 * k ≤ (y 0).val := hx0; omega
    · show 0 + 1 * ((y 1).val - 0) = (y 1).val; omega

end PiecesB

/-! ## The trips of loop 1 -/

section Trip1
variable (c : Dev nD) (i : grid0.Coords) (arg1 : Memref sig .tc .vmem S512x1024 .f32) (harg1 : arg1.IsWhole) (arg5 : Memref sig .tc .vmem S1024x144 .bf16) (harg5 : arg5.IsWhole) (arg6 : Memref sig .tc .vmem S4096x72 .bf16) (harg6 : arg6.IsWhole) (arg7 : Memref sig .tc .vmem S64x4096 .bf16) (harg7 : arg7.IsWhole) (arg8 : Memref sig .tc .vmem S64x4096 .bf16) (harg8 : arg8.IsWhole) (arg9 : Memref sig .tc .vmem S64x1024 .bf16) (harg9 : arg9.IsWhole) (arg10 : Memref sig .tc .vmem S512x1024 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S4096x1024 .bf16) (harg13 : arg13.IsWhole) (k0_h1 : k0_cond1 i = 1#1)

/-- Trip `k` of the first loop. -/
abbrev trip1 (k : Fin k0_t1_loop.trips) : Prog (TpuEff nD τ sig (Elt F) Λ₀ .tc) Unit :=
  k0_t1_body (F := F) i arg1 harg1 wg (Memref.isWhole_whole _) wu (Memref.isWhole_whole _) wd (Memref.isWhole_whole _) arg5 harg5 arg6 harg6 arg7 harg7 arg8 harg8 arg9 harg9 arg10 harg10 arg11 harg11 arg12 harg12 arg13 harg13 bufA (Memref.isWhole_whole _) bufB (Memref.isWhole_whole _) cc0_scratch5 k0_h1 k ()

/-- The first loop starts a copy when a next block remains. -/
theorem cond2_pos (k : Fin k0_t1_loop.trips) (h : k.val + 1 < 8) : k0_cond2 k = 1#1 := by
  revert h; revert k; decide +kernel
/-- The first loop starts no copy when no next block remains. -/
theorem cond2_neg (k : Fin k0_t1_loop.trips) (h : ¬ k.val + 1 < 8) : ¬ k0_cond2 k = 1#1 := by
  revert h; revert k; decide +kernel

variable (X : Buf (Elt F) (wg.view.loc (c : Thread nD τ))) (k : Fin k0_t1_loop.trips)

/-- A trip with a next block: it starts that block's transfer, waits for its own, casts and stores it. -/
theorem trip1_next (hk : k.val + 1 < 8) (fd : Buf (Elt F) (arg11.view.loc (c : Thread nD τ))) (hfd : RowsA c wg X arg11 k.val fd) (f0 f1) :
      iprop((arg11.view.loc (c : Thread nD τ) ↦[arg11.view.set]{fullShare} fd) ∗ (∃ W, owes (c : Thread nD τ) 0 W)
        ∗ homePA c wg X (Ring.bk 8 (k.val + 1)) ∗ flightPA c wg X (Ring.sl 2 k.val) (Ring.bk 8 k.val) f0
        ∗ cellP c (Ring.sl 2 (k.val + 1)) ∗ slotPA c (Ring.sl 2 (k.val + 1)) f1)
      ⊢ (wp frame (wpE (defs₀ (F := F)) 𝒱₀ (c : Thread nD τ) none) Set.univ (trip1 i arg1 harg1 arg5 harg5 arg6 harg6 arg7 harg7 arg8 harg8 arg9 harg9 arg10 harg10 arg11 harg11 arg12 harg12 arg13 harg13 k0_h1 k)
        (fun _ => iprop((∃ f, (arg11.view.loc (c : Thread nD τ) ↦[arg11.view.set]{fullShare} f) ∗ ⌜RowsA c wg X arg11 (k.val + 1) f⌝)
          ∗ (∃ W, owes (c : Thread nD τ) 0 W)
          ∗ homePA c wg X (Ring.bk 8 k.val) ∗ (∃ f, flightPA c wg X (Ring.sl 2 (k.val + 1)) (Ring.bk 8 (k.val + 1)) f)
          ∗ freeA c (Ring.sl 2 k.val))) : sProp 𝕄) := by
  have hc := cond2_pos k hk
  iintro ⟨HD, ⟨%W, HW⟩, Hh, HF, Hc, Hs⟩
  dsimp only [trip1]
  sl_unfold [k0_t1_body]
  sl_exec
  sl_step
  isplitl [HD]
  · iexists _
    isplitl [HD]; · iexact HD
    ipureintro
    exact RowsA_succ c wg X arg11 k.val (lt1 k) fd hfd _ _ (k0_off8_eq k) _ (fun y => castA_got c wg X (Ring.sl 2 k.val) (Ring.bk 8 k.val) _ _ (k0_off7_eq k) _ _ y)
  isplitl [HW]; · iexists _; iexact HW
  isplitl [HF_src]; · iexact HF_src
  isplitl [Hc]; · iexists _; iexact Hc
  isplitl [HF]; · iexact HF
  iexists _; iexact HF_dst

/-- The last trip: no transfer to start. -/
theorem trip1_last (hk : ¬ k.val + 1 < 8) (fd : Buf (Elt F) (arg11.view.loc (c : Thread nD τ))) (hfd : RowsA c wg X arg11 k.val fd) (f0) :
      iprop((arg11.view.loc (c : Thread nD τ) ↦[arg11.view.set]{fullShare} fd) ∗ (∃ W, owes (c : Thread nD τ) 0 W)
        ∗ flightPA c wg X (Ring.sl 2 k.val) (Ring.bk 8 k.val) f0)
      ⊢ (wp frame (wpE (defs₀ (F := F)) 𝒱₀ (c : Thread nD τ) none) Set.univ (trip1 i arg1 harg1 arg5 harg5 arg6 harg6 arg7 harg7 arg8 harg8 arg9 harg9 arg10 harg10 arg11 harg11 arg12 harg12 arg13 harg13 k0_h1 k)
        (fun _ => iprop((∃ f, (arg11.view.loc (c : Thread nD τ) ↦[arg11.view.set]{fullShare} f) ∗ ⌜RowsA c wg X arg11 (k.val + 1) f⌝)
          ∗ (∃ W, owes (c : Thread nD τ) 0 W) ∗ homePA c wg X (Ring.bk 8 k.val) ∗ freeA c (Ring.sl 2 k.val))) : sProp 𝕄) := by
  have hc := cond2_neg k hk
  iintro ⟨HD, ⟨%W, HW⟩, HF⟩
  dsimp only [trip1]
  sl_unfold [k0_t1_body]
  sl_exec
  sl_step
  isplitl [HD]
  · iexists _
    isplitl [HD]; · iexact HD
    ipureintro
    exact RowsA_succ c wg X arg11 k.val (lt1 k) fd hfd _ _ (k0_off8_eq k) _ (fun y => castA_got c wg X (Ring.sl 2 k.val) (Ring.bk 8 k.val) _ _ (k0_off7_eq k) _ _ y)
  isplitl [HW]; · iexists _; iexact HW
  isplitl [HF_src]; · iexact HF_src
  isplitl [HF]; · iexact HF
  iexists _; iexact HF_dst

/-- A trip takes the resources before it to the resources before the next one. -/
theorem trip1_step : resA c wg X arg11 k.val ⊢ (wp frame (wpE (defs₀ (F := F)) 𝒱₀ (c : Thread nD τ) none) Set.univ
    (trip1 i arg1 harg1 arg5 harg5 arg6 harg6 arg7 harg7 arg8 harg8 arg9 harg9 arg10 harg10 arg11 harg11 arg12 harg12 arg13 harg13 k0_h1 k) (fun _ => resA c wg X arg11 (k.val + 1)) : sProp 𝕄) := by
  by_cases hk : k.val + 1 < 8
  · unfold resA
    rw [homesA_next _ k.val hk, Ring.roleAt_of_lt _ _ (k.val + 1) hk, Ring.roleAt_of_lt _ _ k.val (lt1 k), Ring.sl_add 2 k.val]
    rw [homesA_here _ k.val hk]
    iintro ⟨⟨%fd, HD, %hfd⟩, HW, ⟨Hh, Hrest⟩, ⟨%f0, HF⟩, Hc, ⟨%f1, Hs⟩⟩
    iapply (wp_wand_r Idealize.ShloMosaic.frame (wpE (defs₀ (F := F)) 𝒱₀ (c : Thread nD τ) none) Set.univ)
    isplitl [HD HW Hh HF Hc Hs]
    · iapply (trip1_next c i arg1 harg1 arg5 harg5 arg6 harg6 arg7 harg7 arg8 harg8 arg9 harg9 arg10 harg10 arg11 harg11 arg12 harg12 arg13 harg13 k0_h1 X k hk fd hfd f0 f1)
      isplitl [HD]; · iexact HD
      isplitl [HW]; · iexact HW
      isplitl [Hh]; · iexact Hh
      isplitl [HF]; · iexact HF
      isplitl [Hc]; · iexact Hc
      iexact Hs
    · iintro %_ ⟨HD, HW, Hh, HF, Hf⟩
      isplitl [HD]; · iexact HD
      isplitl [HW]; · iexact HW
      isplitl [Hh Hrest]
      · isplitl [Hh]; · iexact Hh
        iexact Hrest
      isplitl [HF]; · iexact HF
      iexact Hf
  · unfold resA
    have hk' : 8 ≤ k.val + 1 := Nat.not_lt.mp hk
    rw [homesA_tail _ k.val hk' (lt1 k), Ring.roleAt_of_le _ _ (k.val + 1) hk', Ring.roleAt_of_lt _ _ k.val (lt1 k), Ring.sl_add 2 k.val]
    iintro ⟨⟨%fd, HD, %hfd⟩, HW, Hrest, ⟨%f0, HF⟩, Hf1⟩
    iapply (wp_wand_r Idealize.ShloMosaic.frame (wpE (defs₀ (F := F)) 𝒱₀ (c : Thread nD τ) none) Set.univ)
    isplitl [HD HW HF]
    · iapply (trip1_last c i arg1 harg1 arg5 harg5 arg6 harg6 arg7 harg7 arg8 harg8 arg9 harg9 arg10 harg10 arg11 harg11 arg12 harg12 arg13 harg13 k0_h1 X k hk fd hfd f0)
      isplitl [HD]; · iexact HD
      isplitl [HW]; · iexact HW
      iexact HF
    · iintro %_ ⟨HD, HW, Hh, Hf⟩
      isplitl [HD]; · iexact HD
      isplitl [HW]; · iexact HW
      isplitl [Hh Hrest]
      · isplitl [Hh]; · iexact Hh
        iexact Hrest
      isplitl [Hf1]; · iexact Hf1
      iexact Hf

set_option warn.classDefReducibility false in
/-- The loop's invariant: `resA` before every trip. -/
@[sl_loop] def loopInv1 (X : Buf (Elt F) (wg.view.loc (c : Thread nD τ))) :
    LoopInvTy_k0_t1 (F := F) Unit ℕ (UD sig nD τ) ℕ 𝒱₀ c none Set.univ i arg1 harg1 wg (Memref.isWhole_whole _) wu (Memref.isWhole_whole _) wd (Memref.isWhole_whole _) arg5 harg5 arg6 harg6 arg7 harg7 arg8 harg8 arg9 harg9 arg10 harg10 arg11 harg11 arg12 harg12 arg13 harg13 bufA (Memref.isWhole_whole _) bufB (Memref.isWhole_whole _) cc0_scratch5 k0_h1 where
  inv k _ := resA c wg X arg11 k
  step k _ := trip1_step c i arg1 harg1 arg5 harg5 arg6 harg6 arg7 harg7 arg8 harg8 arg9 harg9 arg10 harg10 arg11 harg11 arg12 harg12 arg13 harg13 k0_h1 X k

/-- The first loop makes 8 trips. -/
theorem trips1_eq : k0_t1_loop.trips = 8 := by decide +kernel

/-- What the loop hands on, both slots named. -/
instance loopExit1 (X : Buf (Elt F) (wg.view.loc (c : Thread nD τ))) : LoopExit (loopInv1 c i arg1 harg1 arg5 harg5 arg6 harg6 arg7 harg7 arg8 harg8 arg9 harg9 arg10 harg10 arg11 harg11 arg12 harg12 arg13 harg13 k0_h1 X) where
  post _ := iprop((∃ f, (arg11.view.loc (c : Thread nD τ) ↦[arg11.view.set]{fullShare} f) ∗ ⌜arg11.view.read (Elt F) f = castA c wg X⌝)
    ∗ (∃ W, owes (c : Thread nD τ) 0 W) ∗ bigSep Finset.univ (homePA c wg X) ∗ cellP c 0 ∗ cellP c 1 ∗ (∃ f, slotPA c 0 f) ∗ (∃ f, slotPA c 1 f))
  exit _ := by
    show resA c wg X arg11 k0_t1_loop.trips ⊢ _
    rw [trips1_eq]; exact resA_exit c wg X arg11

end Trip1

/-! ## The trips of loop 2 -/

section Trip2
variable (c : Dev nD) (i : grid0.Coords) (arg1 : Memref sig .tc .vmem S512x1024 .f32) (harg1 : arg1.IsWhole) (arg5 : Memref sig .tc .vmem S1024x144 .bf16) (harg5 : arg5.IsWhole) (arg6 : Memref sig .tc .vmem S4096x72 .bf16) (harg6 : arg6.IsWhole) (arg7 : Memref sig .tc .vmem S64x4096 .bf16) (harg7 : arg7.IsWhole) (arg8 : Memref sig .tc .vmem S64x4096 .bf16) (harg8 : arg8.IsWhole) (arg9 : Memref sig .tc .vmem S64x1024 .bf16) (harg9 : arg9.IsWhole) (arg10 : Memref sig .tc .vmem S512x1024 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S4096x1024 .bf16) (harg13 : arg13.IsWhole) (k0_h1 : k0_cond1 i = 1#1)

/-- Trip `k` of the second loop. -/
abbrev trip2 (k : Fin k0_t2_loop.trips) : Prog (TpuEff nD τ sig (Elt F) Λ₀ .tc) Unit :=
  k0_t2_body (F := F) i arg1 harg1 wg (Memref.isWhole_whole _) wu (Memref.isWhole_whole _) wd (Memref.isWhole_whole _) arg5 harg5 arg6 harg6 arg7 harg7 arg8 harg8 arg9 harg9 arg10 harg10 arg11 harg11 arg12 harg12 arg13 harg13 bufA (Memref.isWhole_whole _) bufB (Memref.isWhole_whole _) cc0_scratch5 k0_h1 k ()

/-- The second loop starts a copy when a next block remains. -/
theorem cond3_pos (k : Fin k0_t2_loop.trips) (h : k.val + 1 < 8) : k0_cond3 k = 1#1 := by
  revert h; revert k; decide +kernel
/-- The second loop starts no copy when no next block remains. -/
theorem cond3_neg (k : Fin k0_t2_loop.trips) (h : ¬ k.val + 1 < 8) : ¬ k0_cond3 k = 1#1 := by
  revert h; revert k; decide +kernel

variable (X : Buf (Elt F) (wu.view.loc (c : Thread nD τ))) (k : Fin k0_t2_loop.trips)

/-- A trip with a next block: it starts that block's transfer, waits for its own, casts and stores it. -/
theorem trip2_next (hk : k.val + 1 < 8) (fd : Buf (Elt F) (arg12.view.loc (c : Thread nD τ))) (hfd : RowsA c wu X arg12 k.val fd) (f0 f1) :
      iprop((arg12.view.loc (c : Thread nD τ) ↦[arg12.view.set]{fullShare} fd) ∗ (∃ W, owes (c : Thread nD τ) 0 W)
        ∗ homePA c wu X (Ring.bk 8 (k.val + 1)) ∗ flightPA c wu X (Ring.sl 2 k.val) (Ring.bk 8 k.val) f0
        ∗ cellP c (Ring.sl 2 (k.val + 1)) ∗ slotPA c (Ring.sl 2 (k.val + 1)) f1)
      ⊢ (wp frame (wpE (defs₀ (F := F)) 𝒱₀ (c : Thread nD τ) none) Set.univ (trip2 i arg1 harg1 arg5 harg5 arg6 harg6 arg7 harg7 arg8 harg8 arg9 harg9 arg10 harg10 arg11 harg11 arg12 harg12 arg13 harg13 k0_h1 k)
        (fun _ => iprop((∃ f, (arg12.view.loc (c : Thread nD τ) ↦[arg12.view.set]{fullShare} f) ∗ ⌜RowsA c wu X arg12 (k.val + 1) f⌝)
          ∗ (∃ W, owes (c : Thread nD τ) 0 W)
          ∗ homePA c wu X (Ring.bk 8 k.val) ∗ (∃ f, flightPA c wu X (Ring.sl 2 (k.val + 1)) (Ring.bk 8 (k.val + 1)) f)
          ∗ freeA c (Ring.sl 2 k.val))) : sProp 𝕄) := by
  have hc := cond3_pos k hk
  iintro ⟨HD, ⟨%W, HW⟩, Hh, HF, Hc, Hs⟩
  dsimp only [trip2]
  sl_unfold [k0_t2_body]
  sl_exec
  sl_step
  isplitl [HD]
  · iexists _
    isplitl [HD]; · iexact HD
    ipureintro
    exact RowsA_succ c wu X arg12 k.val (lt2 k) fd hfd _ _ (k0_off16_eq k) _ (fun y => castA_got c wu X (Ring.sl 2 k.val) (Ring.bk 8 k.val) _ _ (k0_off15_eq k) _ _ y)
  isplitl [HW]; · iexists _; iexact HW
  isplitl [HF_src]; · iexact HF_src
  isplitl [Hc]; · iexists _; iexact Hc
  isplitl [HF]; · iexact HF
  iexists _; iexact HF_dst

/-- The last trip: no transfer to start. -/
theorem trip2_last (hk : ¬ k.val + 1 < 8) (fd : Buf (Elt F) (arg12.view.loc (c : Thread nD τ))) (hfd : RowsA c wu X arg12 k.val fd) (f0) :
      iprop((arg12.view.loc (c : Thread nD τ) ↦[arg12.view.set]{fullShare} fd) ∗ (∃ W, owes (c : Thread nD τ) 0 W)
        ∗ flightPA c wu X (Ring.sl 2 k.val) (Ring.bk 8 k.val) f0)
      ⊢ (wp frame (wpE (defs₀ (F := F)) 𝒱₀ (c : Thread nD τ) none) Set.univ (trip2 i arg1 harg1 arg5 harg5 arg6 harg6 arg7 harg7 arg8 harg8 arg9 harg9 arg10 harg10 arg11 harg11 arg12 harg12 arg13 harg13 k0_h1 k)
        (fun _ => iprop((∃ f, (arg12.view.loc (c : Thread nD τ) ↦[arg12.view.set]{fullShare} f) ∗ ⌜RowsA c wu X arg12 (k.val + 1) f⌝)
          ∗ (∃ W, owes (c : Thread nD τ) 0 W) ∗ homePA c wu X (Ring.bk 8 k.val) ∗ freeA c (Ring.sl 2 k.val))) : sProp 𝕄) := by
  have hc := cond3_neg k hk
  iintro ⟨HD, ⟨%W, HW⟩, HF⟩
  dsimp only [trip2]
  sl_unfold [k0_t2_body]
  sl_exec
  sl_step
  isplitl [HD]
  · iexists _
    isplitl [HD]; · iexact HD
    ipureintro
    exact RowsA_succ c wu X arg12 k.val (lt2 k) fd hfd _ _ (k0_off16_eq k) _ (fun y => castA_got c wu X (Ring.sl 2 k.val) (Ring.bk 8 k.val) _ _ (k0_off15_eq k) _ _ y)
  isplitl [HW]; · iexists _; iexact HW
  isplitl [HF_src]; · iexact HF_src
  isplitl [HF]; · iexact HF
  iexists _; iexact HF_dst

/-- A trip takes the resources before it to the resources before the next one. -/
theorem trip2_step : resA c wu X arg12 k.val ⊢ (wp frame (wpE (defs₀ (F := F)) 𝒱₀ (c : Thread nD τ) none) Set.univ
    (trip2 i arg1 harg1 arg5 harg5 arg6 harg6 arg7 harg7 arg8 harg8 arg9 harg9 arg10 harg10 arg11 harg11 arg12 harg12 arg13 harg13 k0_h1 k) (fun _ => resA c wu X arg12 (k.val + 1)) : sProp 𝕄) := by
  by_cases hk : k.val + 1 < 8
  · unfold resA
    rw [homesA_next _ k.val hk, Ring.roleAt_of_lt _ _ (k.val + 1) hk, Ring.roleAt_of_lt _ _ k.val (lt2 k), Ring.sl_add 2 k.val]
    rw [homesA_here _ k.val hk]
    iintro ⟨⟨%fd, HD, %hfd⟩, HW, ⟨Hh, Hrest⟩, ⟨%f0, HF⟩, Hc, ⟨%f1, Hs⟩⟩
    iapply (wp_wand_r Idealize.ShloMosaic.frame (wpE (defs₀ (F := F)) 𝒱₀ (c : Thread nD τ) none) Set.univ)
    isplitl [HD HW Hh HF Hc Hs]
    · iapply (trip2_next c i arg1 harg1 arg5 harg5 arg6 harg6 arg7 harg7 arg8 harg8 arg9 harg9 arg10 harg10 arg11 harg11 arg12 harg12 arg13 harg13 k0_h1 X k hk fd hfd f0 f1)
      isplitl [HD]; · iexact HD
      isplitl [HW]; · iexact HW
      isplitl [Hh]; · iexact Hh
      isplitl [HF]; · iexact HF
      isplitl [Hc]; · iexact Hc
      iexact Hs
    · iintro %_ ⟨HD, HW, Hh, HF, Hf⟩
      isplitl [HD]; · iexact HD
      isplitl [HW]; · iexact HW
      isplitl [Hh Hrest]
      · isplitl [Hh]; · iexact Hh
        iexact Hrest
      isplitl [HF]; · iexact HF
      iexact Hf
  · unfold resA
    have hk' : 8 ≤ k.val + 1 := Nat.not_lt.mp hk
    rw [homesA_tail _ k.val hk' (lt2 k), Ring.roleAt_of_le _ _ (k.val + 1) hk', Ring.roleAt_of_lt _ _ k.val (lt2 k), Ring.sl_add 2 k.val]
    iintro ⟨⟨%fd, HD, %hfd⟩, HW, Hrest, ⟨%f0, HF⟩, Hf1⟩
    iapply (wp_wand_r Idealize.ShloMosaic.frame (wpE (defs₀ (F := F)) 𝒱₀ (c : Thread nD τ) none) Set.univ)
    isplitl [HD HW HF]
    · iapply (trip2_last c i arg1 harg1 arg5 harg5 arg6 harg6 arg7 harg7 arg8 harg8 arg9 harg9 arg10 harg10 arg11 harg11 arg12 harg12 arg13 harg13 k0_h1 X k hk fd hfd f0)
      isplitl [HD]; · iexact HD
      isplitl [HW]; · iexact HW
      iexact HF
    · iintro %_ ⟨HD, HW, Hh, Hf⟩
      isplitl [HD]; · iexact HD
      isplitl [HW]; · iexact HW
      isplitl [Hh Hrest]
      · isplitl [Hh]; · iexact Hh
        iexact Hrest
      isplitl [Hf1]; · iexact Hf1
      iexact Hf

set_option warn.classDefReducibility false in
/-- The loop's invariant: `resA` before every trip. -/
@[sl_loop] def loopInv2 (X : Buf (Elt F) (wu.view.loc (c : Thread nD τ))) :
    LoopInvTy_k0_t2 (F := F) Unit ℕ (UD sig nD τ) ℕ 𝒱₀ c none Set.univ i arg1 harg1 wg (Memref.isWhole_whole _) wu (Memref.isWhole_whole _) wd (Memref.isWhole_whole _) arg5 harg5 arg6 harg6 arg7 harg7 arg8 harg8 arg9 harg9 arg10 harg10 arg11 harg11 arg12 harg12 arg13 harg13 bufA (Memref.isWhole_whole _) bufB (Memref.isWhole_whole _) cc0_scratch5 k0_h1 where
  inv k _ := resA c wu X arg12 k
  step k _ := trip2_step c i arg1 harg1 arg5 harg5 arg6 harg6 arg7 harg7 arg8 harg8 arg9 harg9 arg10 harg10 arg11 harg11 arg12 harg12 arg13 harg13 k0_h1 X k

/-- The second loop makes 8 trips. -/
theorem trips2_eq : k0_t2_loop.trips = 8 := by decide +kernel

/-- What the loop hands on, both slots named. -/
instance loopExit2 (X : Buf (Elt F) (wu.view.loc (c : Thread nD τ))) : LoopExit (loopInv2 c i arg1 harg1 arg5 harg5 arg6 harg6 arg7 harg7 arg8 harg8 arg9 harg9 arg10 harg10 arg11 harg11 arg12 harg12 arg13 harg13 k0_h1 X) where
  post _ := iprop((∃ f, (arg12.view.loc (c : Thread nD τ) ↦[arg12.view.set]{fullShare} f) ∗ ⌜arg12.view.read (Elt F) f = castA c wu X⌝)
    ∗ (∃ W, owes (c : Thread nD τ) 0 W) ∗ bigSep Finset.univ (homePA c wu X) ∗ cellP c 0 ∗ cellP c 1 ∗ (∃ f, slotPA c 0 f) ∗ (∃ f, slotPA c 1 f))
  exit _ := by
    show resA c wu X arg12 k0_t2_loop.trips ⊢ _
    rw [trips2_eq]; exact resA_exit c wu X arg12

end Trip2

/-! ## The trips of loop 3 -/

section Trip3
variable (c : Dev nD) (i : grid0.Coords) (arg1 : Memref sig .tc .vmem S512x1024 .f32) (harg1 : arg1.IsWhole) (arg5 : Memref sig .tc .vmem S1024x144 .bf16) (harg5 : arg5.IsWhole) (arg6 : Memref sig .tc .vmem S4096x72 .bf16) (harg6 : arg6.IsWhole) (arg7 : Memref sig .tc .vmem S64x4096 .bf16) (harg7 : arg7.IsWhole) (arg8 : Memref sig .tc .vmem S64x4096 .bf16) (harg8 : arg8.IsWhole) (arg9 : Memref sig .tc .vmem S64x1024 .bf16) (harg9 : arg9.IsWhole) (arg10 : Memref sig .tc .vmem S512x1024 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S4096x1024 .bf16) (harg13 : arg13.IsWhole) (k0_h1 : k0_cond1 i = 1#1)

/-- Trip `k` of the third loop. -/
abbrev trip3 (k : Fin k0_t3_loop.trips) : Prog (TpuEff nD τ sig (Elt F) Λ₀ .tc) Unit :=
  k0_t3_body (F := F) i arg1 harg1 wg (Memref.isWhole_whole _) wu (Memref.isWhole_whole _) wd (Memref.isWhole_whole _) arg5 harg5 arg6 harg6 arg7 harg7 arg8 harg8 arg9 harg9 arg10 harg10 arg11 harg11 arg12 harg12 arg13 harg13 bufA (Memref.isWhole_whole _) bufB (Memref.isWhole_whole _) cc0_scratch5 k0_h1 k ()

/-- The third loop starts a copy when a next block remains. -/
theorem cond4_pos (k : Fin k0_t3_loop.trips) (h : k.val + 1 < 16) : k0_cond4 k = 1#1 := by
  revert h; revert k; decide +kernel
/-- The third loop starts no copy when no next block remains. -/
theorem cond4_neg (k : Fin k0_t3_loop.trips) (h : ¬ k.val + 1 < 16) : ¬ k0_cond4 k = 1#1 := by
  revert h; revert k; decide +kernel

variable (X : Buf (Elt F) (wd.view.loc (c : Thread nD τ))) (k : Fin k0_t3_loop.trips)

/-- A trip with a next block: it starts that block's transfer, waits for its own, casts and stores it. -/
theorem trip3_next (hk : k.val + 1 < 16) (fd : Buf (Elt F) (arg13.view.loc (c : Thread nD τ))) (hfd : RowsB c wd X arg13 k.val fd) (f0 f1) :
      iprop((arg13.view.loc (c : Thread nD τ) ↦[arg13.view.set]{fullShare} fd) ∗ (∃ W, owes (c : Thread nD τ) 0 W)
        ∗ homePB c wd X (Ring.bk 16 (k.val + 1)) ∗ flightPB c wd X (Ring.sl 2 k.val) (Ring.bk 16 k.val) f0
        ∗ cellP c (Ring.sl 2 (k.val + 1)) ∗ slotPB c (Ring.sl 2 (k.val + 1)) f1)
      ⊢ (wp frame (wpE (defs₀ (F := F)) 𝒱₀ (c : Thread nD τ) none) Set.univ (trip3 i arg1 harg1 arg5 harg5 arg6 harg6 arg7 harg7 arg8 harg8 arg9 harg9 arg10 harg10 arg11 harg11 arg12 harg12 arg13 harg13 k0_h1 k)
        (fun _ => iprop((∃ f, (arg13.view.loc (c : Thread nD τ) ↦[arg13.view.set]{fullShare} f) ∗ ⌜RowsB c wd X arg13 (k.val + 1) f⌝)
          ∗ (∃ W, owes (c : Thread nD τ) 0 W)
          ∗ homePB c wd X (Ring.bk 16 k.val) ∗ (∃ f, flightPB c wd X (Ring.sl 2 (k.val + 1)) (Ring.bk 16 (k.val + 1)) f)
          ∗ freeB c (Ring.sl 2 k.val))) : sProp 𝕄) := by
  have hc := cond4_pos k hk
  iintro ⟨HD, ⟨%W, HW⟩, Hh, HF, Hc, Hs⟩
  dsimp only [trip3]
  sl_unfold [k0_t3_body]
  sl_exec
  sl_step
  isplitl [HD]
  · iexists _
    isplitl [HD]; · iexact HD
    ipureintro
    exact RowsB_succ c wd X arg13 k.val (lt3 k) fd hfd _ _ (k0_off24_eq k) _ (fun y => castB_got c wd X (Ring.sl 2 k.val) (Ring.bk 16 k.val) _ _ (k0_off23_eq k) _ _ y)
  isplitl [HW]; · iexists _; iexact HW
  isplitl [HF_src]; · iexact HF_src
  isplitl [Hc]; · iexists _; iexact Hc
  isplitl [HF]; · iexact HF
  iexists _; iexact HF_dst

/-- The last trip: no transfer to start. -/
theorem trip3_last (hk : ¬ k.val + 1 < 16) (fd : Buf (Elt F) (arg13.view.loc (c : Thread nD τ))) (hfd : RowsB c wd X arg13 k.val fd) (f0) :
      iprop((arg13.view.loc (c : Thread nD τ) ↦[arg13.view.set]{fullShare} fd) ∗ (∃ W, owes (c : Thread nD τ) 0 W)
        ∗ flightPB c wd X (Ring.sl 2 k.val) (Ring.bk 16 k.val) f0)
      ⊢ (wp frame (wpE (defs₀ (F := F)) 𝒱₀ (c : Thread nD τ) none) Set.univ (trip3 i arg1 harg1 arg5 harg5 arg6 harg6 arg7 harg7 arg8 harg8 arg9 harg9 arg10 harg10 arg11 harg11 arg12 harg12 arg13 harg13 k0_h1 k)
        (fun _ => iprop((∃ f, (arg13.view.loc (c : Thread nD τ) ↦[arg13.view.set]{fullShare} f) ∗ ⌜RowsB c wd X arg13 (k.val + 1) f⌝)
          ∗ (∃ W, owes (c : Thread nD τ) 0 W) ∗ homePB c wd X (Ring.bk 16 k.val) ∗ freeB c (Ring.sl 2 k.val))) : sProp 𝕄) := by
  have hc := cond4_neg k hk
  iintro ⟨HD, ⟨%W, HW⟩, HF⟩
  dsimp only [trip3]
  sl_unfold [k0_t3_body]
  sl_exec
  sl_step
  isplitl [HD]
  · iexists _
    isplitl [HD]; · iexact HD
    ipureintro
    exact RowsB_succ c wd X arg13 k.val (lt3 k) fd hfd _ _ (k0_off24_eq k) _ (fun y => castB_got c wd X (Ring.sl 2 k.val) (Ring.bk 16 k.val) _ _ (k0_off23_eq k) _ _ y)
  isplitl [HW]; · iexists _; iexact HW
  isplitl [HF_src]; · iexact HF_src
  isplitl [HF]; · iexact HF
  iexists _; iexact HF_dst

/-- A trip takes the resources before it to the resources before the next one. -/
theorem trip3_step : resB c wd X arg13 k.val ⊢ (wp frame (wpE (defs₀ (F := F)) 𝒱₀ (c : Thread nD τ) none) Set.univ
    (trip3 i arg1 harg1 arg5 harg5 arg6 harg6 arg7 harg7 arg8 harg8 arg9 harg9 arg10 harg10 arg11 harg11 arg12 harg12 arg13 harg13 k0_h1 k) (fun _ => resB c wd X arg13 (k.val + 1)) : sProp 𝕄) := by
  by_cases hk : k.val + 1 < 16
  · unfold resB
    rw [homesB_next _ k.val hk, Ring.roleAt_of_lt _ _ (k.val + 1) hk, Ring.roleAt_of_lt _ _ k.val (lt3 k), Ring.sl_add 2 k.val]
    rw [homesB_here _ k.val hk]
    iintro ⟨⟨%fd, HD, %hfd⟩, HW, ⟨Hh, Hrest⟩, ⟨%f0, HF⟩, Hc, ⟨%f1, Hs⟩⟩
    iapply (wp_wand_r Idealize.ShloMosaic.frame (wpE (defs₀ (F := F)) 𝒱₀ (c : Thread nD τ) none) Set.univ)
    isplitl [HD HW Hh HF Hc Hs]
    · iapply (trip3_next c i arg1 harg1 arg5 harg5 arg6 harg6 arg7 harg7 arg8 harg8 arg9 harg9 arg10 harg10 arg11 harg11 arg12 harg12 arg13 harg13 k0_h1 X k hk fd hfd f0 f1)
      isplitl [HD]; · iexact HD
      isplitl [HW]; · iexact HW
      isplitl [Hh]; · iexact Hh
      isplitl [HF]; · iexact HF
      isplitl [Hc]; · iexact Hc
      iexact Hs
    · iintro %_ ⟨HD, HW, Hh, HF, Hf⟩
      isplitl [HD]; · iexact HD
      isplitl [HW]; · iexact HW
      isplitl [Hh Hrest]
      · isplitl [Hh]; · iexact Hh
        iexact Hrest
      isplitl [HF]; · iexact HF
      iexact Hf
  · unfold resB
    have hk' : 16 ≤ k.val + 1 := Nat.not_lt.mp hk
    rw [homesB_tail _ k.val hk' (lt3 k), Ring.roleAt_of_le _ _ (k.val + 1) hk', Ring.roleAt_of_lt _ _ k.val (lt3 k), Ring.sl_add 2 k.val]
    iintro ⟨⟨%fd, HD, %hfd⟩, HW, Hrest, ⟨%f0, HF⟩, Hf1⟩
    iapply (wp_wand_r Idealize.ShloMosaic.frame (wpE (defs₀ (F := F)) 𝒱₀ (c : Thread nD τ) none) Set.univ)
    isplitl [HD HW HF]
    · iapply (trip3_last c i arg1 harg1 arg5 harg5 arg6 harg6 arg7 harg7 arg8 harg8 arg9 harg9 arg10 harg10 arg11 harg11 arg12 harg12 arg13 harg13 k0_h1 X k hk fd hfd f0)
      isplitl [HD]; · iexact HD
      isplitl [HW]; · iexact HW
      iexact HF
    · iintro %_ ⟨HD, HW, Hh, Hf⟩
      isplitl [HD]; · iexact HD
      isplitl [HW]; · iexact HW
      isplitl [Hh Hrest]
      · isplitl [Hh]; · iexact Hh
        iexact Hrest
      isplitl [Hf1]; · iexact Hf1
      iexact Hf

set_option warn.classDefReducibility false in
/-- The loop's invariant: `resB` before every trip. -/
@[sl_loop] def loopInv3 (X : Buf (Elt F) (wd.view.loc (c : Thread nD τ))) :
    LoopInvTy_k0_t3 (F := F) Unit ℕ (UD sig nD τ) ℕ 𝒱₀ c none Set.univ i arg1 harg1 wg (Memref.isWhole_whole _) wu (Memref.isWhole_whole _) wd (Memref.isWhole_whole _) arg5 harg5 arg6 harg6 arg7 harg7 arg8 harg8 arg9 harg9 arg10 harg10 arg11 harg11 arg12 harg12 arg13 harg13 bufA (Memref.isWhole_whole _) bufB (Memref.isWhole_whole _) cc0_scratch5 k0_h1 where
  inv k _ := resB c wd X arg13 k
  step k _ := trip3_step c i arg1 harg1 arg5 harg5 arg6 harg6 arg7 harg7 arg8 harg8 arg9 harg9 arg10 harg10 arg11 harg11 arg12 harg12 arg13 harg13 k0_h1 X k

/-- The third loop makes 16 trips. -/
theorem trips3_eq : k0_t3_loop.trips = 16 := by decide +kernel

/-- What the loop hands on, both slots named. -/
instance loopExit3 (X : Buf (Elt F) (wd.view.loc (c : Thread nD τ))) : LoopExit (loopInv3 c i arg1 harg1 arg5 harg5 arg6 harg6 arg7 harg7 arg8 harg8 arg9 harg9 arg10 harg10 arg11 harg11 arg12 harg12 arg13 harg13 k0_h1 X) where
  post _ := iprop((∃ f, (arg13.view.loc (c : Thread nD τ) ↦[arg13.view.set]{fullShare} f) ∗ ⌜arg13.view.read (Elt F) f = castB c wd X⌝)
    ∗ (∃ W, owes (c : Thread nD τ) 0 W) ∗ bigSep Finset.univ (homePB c wd X) ∗ cellP c 0 ∗ cellP c 1 ∗ (∃ f, slotPB c 0 f) ∗ (∃ f, slotPB c 1 f))
  exit _ := by
    show resB c wd X arg13 k0_t3_loop.trips ⊢ _
    rw [trips3_eq]; exact resB_exit c wd X arg13

end Trip3

end Cert.Proof.KernelIdealRing

end
-- ==== Proof.Body.lean ====
module

public import proofs.«01_k».proof.Proof.Trips

@[expose] public section

noncomputable section

namespace Cert.Proof.KernelIdealRing

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The part of an array a rectangle reads. -/
abbrev cut {s : Shape} {α : Type} (R : Rect s) (v : s.Idx → α) : R.shape.Idx → α := fun y => v (R.toLoadRect.idx y)

/-- The block the body stores, of the x block, the stacked adapters, the output adapters and the three cast weights. -/
def outF (x : S512x1024.Idx → Elt F .f32) (guc : S1024x144.Idx → Elt F .bf16) (dc : S4096x72.Idx → Elt F .bf16)
    (gbc ubc : S64x4096.Idx → Elt F .bf16) (dbc : S64x1024.Idx → Elt F .bf16)
    (wg wu : S1024x4096.Idx → Elt F .bf16) (wd : S4096x1024.Idx → Elt F .bf16) : S512x1024.Idx → Elt F .f32 :=
  let v3 : Vec F S512x1024 .f32 := cut (Rect.unit (s := S512x1024) ![0, 0] S512x1024.size inb_S512x1024_S512x1024_0_0) x
  let v6 : Vec F S1024x144 .bf16 := cut (Rect.unit (s := S1024x144) ![0, 0] S1024x144.size inb_S1024x144_S1024x144_0_0) guc
  let v9 : Vec F S1024x2048 .bf16 := cut (Rect.unit (s := S1024x4096) ![0, 0] S1024x2048.size inb_S1024x4096_S1024x2048_0_0) wg
  let v11 : Vec F S1024x2048 .bf16 := cut (Rect.unit (s := S1024x4096) ![0, 0] S1024x2048.size inb_S1024x4096_S1024x2048_0_0) wu
  let v24 : IVec S8x64 32 := iota .tc S8x64 32 [0] iota_S8x64_d0_w32
  let v25 : IVec S8x64 32 := iota .tc S8x64 32 [1] iota_S8x64_d1_w32
  let v36 : BitVec 32 := Scalar.extui (Scalar.cmpi .sgt 8#32 0#32)
  let v37 : BitVec 1 := Scalar.cmpi .slt 8#32 0#32
  let v8 := k0_pay6 v3 v6
  let v10 := k0_pay7 v3 v9
  let v12 := k0_pay8 v3 v11
  let v56 := k0_pay13 (k0_pay9 v3 v6) (k0_pay10 v3 v6) v24 v25 8#32 k0_pay11 k0_pay12 v36 v37
  let v103 : Vec F S64x2048 .bf16 := cut (Rect.unit (s := S64x4096) ![0, 0] S64x2048.size inb_S64x4096_S64x2048_0_0) gbc
  let v107 : Vec F S64x2048 .bf16 := cut (Rect.unit (s := S64x4096) ![0, 0] S64x2048.size inb_S64x4096_S64x2048_0_0) ubc
  let v111 : Vec F S1024x2048 .bf16 := cut (Rect.unit (s := S1024x4096) ![0, 2048] S1024x2048.size inb_S1024x4096_S1024x2048_0_2048) wg
  let v113 : Vec F S1024x2048 .bf16 := cut (Rect.unit (s := S1024x4096) ![0, 2048] S1024x2048.size inb_S1024x4096_S1024x2048_0_2048) wu
  let v120 : Vec F S2048x1024 .bf16 := cut (Rect.unit (s := S4096x1024) ![0, 0] S2048x1024.size inb_S4096x1024_S2048x1024_0_0) wd
  let v100 := k0_pay18 (k0_pay14 v8) (k0_pay15 v8) v24 v25 8#32 k0_pay16 k0_pay17
  let v102 := k0_pay19 (F := F)
  let v112 := k0_pay20 (k0_pay5 v3) v111
  let v114 := k0_pay21 (k0_pay5 v3) v113
  let v119 := k0_pay22 v10 v12 v56 (k0_pay14 v8) (k0_pay15 v8) v24 v25 8#32 k0_pay16 k0_pay17 v103 v107
  let v122 := k0_pay23 v10 v12 v56 (k0_pay14 v8) (k0_pay15 v8) v24 v25 8#32 k0_pay16 k0_pay17 v103 v107 v120
  let v123 : Vec F S2048x72 .bf16 := cut (Rect.unit (s := S4096x72) ![0, 0] S2048x72.size inb_S4096x72_S2048x72_0_0) dc
  let v127 : Vec F S64x2048 .bf16 := cut (Rect.unit (s := S64x4096) ![0, 2048] S64x2048.size inb_S64x4096_S64x2048_0_2048) gbc
  let v131 : Vec F S64x2048 .bf16 := cut (Rect.unit (s := S64x4096) ![0, 2048] S64x2048.size inb_S64x4096_S64x2048_0_2048) ubc
  let v140 : Vec F S2048x1024 .bf16 := cut (Rect.unit (s := S4096x1024) ![2048, 0] S2048x1024.size inb_S4096x1024_S2048x1024_2048_0) wd
  let v143 : Vec F S2048x72 .bf16 := cut (Rect.unit (s := S4096x72) ![2048, 0] S2048x72.size inb_S4096x72_S2048x72_2048_0) dc
  let v191 : Vec F S64x1024 .bf16 := cut (Rect.unit (s := S64x1024) ![0, 0] S64x1024.size inb_S64x1024_S64x1024_0_0) dbc
  k0_pay1 (k0_pay25 v56 v100 v112 v114 v122 v127 v131 v140) (k0_pay27 v56 v100 v102 v112 v114 v119 v123 v127 v131 v143)
    (k0_pay28 v56 v100 v102 v112 v114 v119 v123 v127 v131 v143) v24 v25 8#32 k0_pay29 k0_pay30 v191

section Body
variable (c : Dev nD) (i : grid0.Coords) (arg1 : Memref sig .tc .vmem S512x1024 .f32) (harg1 : arg1.IsWhole) (arg5 : Memref sig .tc .vmem S1024x144 .bf16) (harg5 : arg5.IsWhole) (arg6 : Memref sig .tc .vmem S4096x72 .bf16) (harg6 : arg6.IsWhole) (arg7 : Memref sig .tc .vmem S64x4096 .bf16) (harg7 : arg7.IsWhole) (arg8 : Memref sig .tc .vmem S64x4096 .bf16) (harg8 : arg8.IsWhole) (arg9 : Memref sig .tc .vmem S64x1024 .bf16) (harg9 : arg9.IsWhole) (arg10 : Memref sig .tc .vmem S512x1024 .f32) (harg10 : arg10.IsWhole) (arg11 : Memref sig .tc .vmem S1024x4096 .bf16) (harg11 : arg11.IsWhole) (arg12 : Memref sig .tc .vmem S1024x4096 .bf16) (harg12 : arg12.IsWhole) (arg13 : Memref sig .tc .vmem S4096x1024 .bf16) (harg13 : arg13.IsWhole)

/-- The kernel's body on the weights and staging buffers it is launched with. -/
abbrev bodyG : Prog (TpuEff nD τ sig (Elt F) Λ₀ .tc) PUnit :=
  cc0__fused_kernel (F := F) i arg1 harg1 wg (Memref.isWhole_whole _) wu (Memref.isWhole_whole _) wd (Memref.isWhole_whole _) arg5 harg5 arg6 harg6 arg7 harg7 arg8 harg8 arg9 harg9 arg10 harg10 arg11 harg11 arg12 harg12 arg13 harg13 bufA (Memref.isWhole_whole _) bufB (Memref.isWhole_whole _) cc0_scratch5

/-- A view held whole, at contents `f`. -/
abbrev ptsW {sp : Space} {s : Shape} {e : EltTy} (M : Memref sig .tc sp s e) (f : Buf (Elt F) (M.view.loc (c : Thread nD τ))) : sProp 𝕄 :=
  M.view.loc (c : Thread nD τ) ↦[M.view.set]{fullShare} f

variable (f1 : Buf (Elt F) (arg1.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ))) (f9 : Buf (Elt F) (arg9.view.loc (c : Thread nD τ)))
  (f10 : Buf (Elt F) (arg10.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))

/-- The staged blocks the body reads only. -/
abbrev insP : sProp 𝕄 :=
  iprop(ptsW c arg1 f1 ∗ ptsW c arg5 f5 ∗ ptsW c arg6 f6 ∗ ptsW c arg7 f7 ∗ ptsW c arg8 f8 ∗ ptsW c arg9 f9)

/-- What the run stores, read back, is `outF` of what it loaded. -/
theorem read_stored (w : S512x1024.Idx → Elt F .f32) :
    arg10.view.read (Elt F) (arg10.view.writes (Elt F) f10 [⟨Rect.unit (s := S512x1024) ![0, 0] S512x1024.size inb_S512x1024_S512x1024_0_0, w⟩]) = w := by
  funext y
  have hx : ∀ a : Fin 2, (![0, 0] : Fin 2 → ℕ) a ≤ (y a).val ∧ (y a).val < (![0, 0] : Fin 2 → ℕ) a + S512x1024.size a := by
    intro a; fin_cases a
    · exact ⟨Nat.zero_le _, by have : (y 0).val < 512 := (y 0).isLt; show (y 0).val < 0 + 512; omega⟩
    · exact ⟨Nat.zero_le _, by have : (y 1).val < 1024 := (y 1).isLt; show (y 1).val < 0 + 1024; omega⟩
  rw [View.read_writes_cons_unit arg10.view f10 inb_S512x1024_S512x1024_0_0 w [] y rfl, dif_pos hx]
  refine congrArg w (funext fun a => Fin.ext ?_)
  fin_cases a <;> rfl

/-- The body at a point past the first: the weights are staged already. -/
theorem bodyRun_later (h0 : ¬ k0_cond1 i = 1#1) :
    iprop(insP c arg1 arg5 arg6 arg7 arg8 arg9 f1 f5 f6 f7 f8 f9 ∗ ptsW c arg10 f10 ∗ ptsW c arg11 f11 ∗ ptsW c arg12 f12 ∗ ptsW c arg13 f13)
      ⊢ (wp frame (wpE (defs₀ (F := F)) 𝒱₀ (c : Thread nD τ) none) Set.univ (bodyG i arg1 harg1 arg5 harg5 arg6 harg6 arg7 harg7 arg8 harg8 arg9 harg9 arg10 harg10 arg11 harg11 arg12 harg12 arg13 harg13)
        (fun _ => iprop(insP c arg1 arg5 arg6 arg7 arg8 arg9 f1 f5 f6 f7 f8 f9
          ∗ (∃ f, ptsW c arg10 f ∗ ⌜arg10.view.read (Elt F) f = outF (arg1.view.read (Elt F) f1) (arg5.view.read (Elt F) f5) (arg6.view.read (Elt F) f6)
              (arg7.view.read (Elt F) f7) (arg8.view.read (Elt F) f8) (arg9.view.read (Elt F) f9) (arg11.view.read (Elt F) f11) (arg12.view.read (Elt F) f12) (arg13.view.read (Elt F) f13)⌝)
          ∗ ptsW c arg11 f11 ∗ ptsW c arg12 f12 ∗ ptsW c arg13 f13)) : sProp 𝕄) := by
  iintro ⟨⟨H1, H5, H6, H7, H8, H9⟩, H10, H11, H12, H13⟩
  dsimp only [bodyG]
  sl_exec
  sl_step
  isplitl [H1 H5 H6 H7 H8 H9]
  · isplitl [H1]; · iexact H1
    isplitl [H5]; · iexact H5
    isplitl [H6]; · iexact H6
    isplitl [H7]; · iexact H7
    isplitl [H8]; · iexact H8
    iexact H9
  isplitl [H10]
  · iexists _
    isplitl [H10]; · iexact H10
    ipureintro
    exact (read_stored c arg10 f10 _).trans rfl
  isplitl [H11]; · iexact H11
  isplitl [H12]; · iexact H12
  iexact H13

/-- Equal assertions entail each other. -/
theorem entails_of_eq {P Q : sProp 𝕄} (e : P = Q) : P ⊢ Q := e ▸ .rfl

/-- Everything the staging loops take and give back: the three weights at home, the four slots, the two semaphores. -/
def ringP (X1 : Buf (Elt F) (wg.view.loc (c : Thread nD τ))) (X2 : Buf (Elt F) (wu.view.loc (c : Thread nD τ))) (X3 : Buf (Elt F) (wd.view.loc (c : Thread nD τ))) : sProp 𝕄 :=
  iprop(bigSep Finset.univ (homePA c wg X1) ∗ bigSep Finset.univ (homePA c wu X2) ∗ bigSep Finset.univ (homePB c wd X3)
    ∗ (∃ f, slotPA c 0 f) ∗ (∃ f, slotPA c 1 f) ∗ (∃ f, slotPB c 0 f) ∗ (∃ f, slotPB c 1 f) ∗ cellP c 0 ∗ cellP c 1)

/-- Before the first copy, the blocks of the up-projection are block 0 and those at home after it leaves. -/
theorem homesA_zero (P : Fin 8 → sProp 𝕄) : bigSep Finset.univ P = iprop(P 0 ∗ bigSep (Ring.homeSet 1 0) P) := by
  have e : (Finset.univ : Finset (Fin 8)) = insert 0 (Ring.homeSet (NB := 8) 1 0) := by
    ext b; simp only [Finset.mem_univ, Finset.mem_insert, Ring.mem_homeSet, true_iff, Fin.ext_iff]; have := b.isLt; omega
  rw [e, bigSep_insert (by simp [Ring.mem_homeSet])]; rfl
/-- Before the first copy, the blocks of the down-projection are block 0 and those at home after it leaves. -/
theorem homesB_zero (P : Fin 16 → sProp 𝕄) : bigSep Finset.univ P = iprop(P 0 ∗ bigSep (Ring.homeSet 1 0) P) := by
  have e : (Finset.univ : Finset (Fin 16)) = insert 0 (Ring.homeSet (NB := 16) 1 0) := by
    ext b; simp only [Finset.mem_univ, Finset.mem_insert, Ring.mem_homeSet, true_iff, Fin.ext_iff]; have := b.isLt; omega
  rw [e, bigSep_insert (by simp [Ring.mem_homeSet])]; rfl

variable (X1 : Buf (Elt F) (wg.view.loc (c : Thread nD τ))) (X2 : Buf (Elt F) (wu.view.loc (c : Thread nD τ))) (X3 : Buf (Elt F) (wd.view.loc (c : Thread nD τ)))

/-- The body at the first point: it stages the three weights, then computes. -/
theorem bodyRun_first (h0 : k0_cond1 i = 1#1) (W) :
    iprop(insP c arg1 arg5 arg6 arg7 arg8 arg9 f1 f5 f6 f7 f8 f9 ∗ ptsW c arg10 f10 ∗ ptsW c arg11 f11 ∗ ptsW c arg12 f12 ∗ ptsW c arg13 f13
        ∗ owes (c : Thread nD τ) 0 W ∗ ringP c X1 X2 X3)
      ⊢ (wp frame (wpE (defs₀ (F := F)) 𝒱₀ (c : Thread nD τ) none) Set.univ (bodyG i arg1 harg1 arg5 harg5 arg6 harg6 arg7 harg7 arg8 harg8 arg9 harg9 arg10 harg10 arg11 harg11 arg12 harg12 arg13 harg13)
        (fun _ => iprop(insP c arg1 arg5 arg6 arg7 arg8 arg9 f1 f5 f6 f7 f8 f9
          ∗ (∃ f, ptsW c arg10 f ∗ ⌜arg10.view.read (Elt F) f = outF (arg1.view.read (Elt F) f1) (arg5.view.read (Elt F) f5) (arg6.view.read (Elt F) f6)
              (arg7.view.read (Elt F) f7) (arg8.view.read (Elt F) f8) (arg9.view.read (Elt F) f9) (castA c wg X1) (castA c wu X2) (castB c wd X3)⌝)
          ∗ (∃ f, ptsW c arg11 f ∗ ⌜arg11.view.read (Elt F) f = castA c wg X1⌝) ∗ (∃ f, ptsW c arg12 f ∗ ⌜arg12.view.read (Elt F) f = castA c wu X2⌝)
          ∗ (∃ f, ptsW c arg13 f ∗ ⌜arg13.view.read (Elt F) f = castB c wd X3⌝)
          ∗ (∃ W, owes (c : Thread nD τ) 0 W) ∗ ringP c X1 X2 X3)) : sProp 𝕄) := by
  unfold ringP
  iintro ⟨⟨H1, H5, H6, H7, H8, H9⟩, H10, H11, H12, H13, HW, Ha', Hb', Hd', ⟨%fA0, HA0⟩, ⟨%fA1, HA1⟩, ⟨%fB0, HB0⟩, ⟨%fB1, HB1⟩, Hc0, Hc1⟩
  ihave Ha2 := (entails_of_eq (homesA_zero (homePA c wg X1))) $$ Ha'
  icases Ha2 with ⟨Ha, Has⟩
  ihave Hb2 := (entails_of_eq (homesA_zero (homePA c wu X2))) $$ Hb'
  icases Hb2 with ⟨Hb, Hbs⟩
  ihave Hd2 := (entails_of_eq (homesB_zero (homePB c wd X3))) $$ Hd'
  icases Hd2 with ⟨Hd, Hds⟩
  dsimp only [bodyG]
  have z1 : RowsA c wg X1 arg11 0 f11 := fun y hy => absurd hy (Nat.not_lt_zero _)
  have z2 : RowsA c wu X2 arg12 0 f12 := fun y hy => absurd hy (Nat.not_lt_zero _)
  have z3 : RowsB c wd X3 arg13 0 f13 := fun y hy => absurd hy (Nat.not_lt_zero _)
  sl_exec
  sl_step
  isplitl [H1 H5 H6 H7 H8 H9]
  · isplitl [H1]; · iexact H1
    isplitl [H5]; · iexact H5
    isplitl [H6]; · iexact H6
    isplitl [H7]; · iexact H7
    isplitl [H8]; · iexact H8
    iexact H9
  isplitl [H10]
  · iexists _
    isplitl [H10]; · iexact H10
    ipureintro
    rw [← hL1, ← hL9, ← hL17]
    exact (read_stored c arg10 f10 _).trans rfl
  isplitl [HL0]
  · iexists _
    isplitl [HL0]; · iexact HL0
    ipureintro; exact hL1
  isplitl [HL8]
  · iexists _
    isplitl [HL8]; · iexact HL8
    ipureintro; exact hL9
  isplitl [HL16]
  · iexists _
    isplitl [HL16]; · iexact HL16
    ipureintro; exact hL17
  isplitl [HL18]; · iexists _; iexact HL18
  isplitl [HL3]; · iexact HL3
  isplitl [HL11]; · iexact HL11
  isplitl [HL19]; · iexact HL19
  isplitl [HL14]; · iexists _; iexact HL14
  isplitl [HL15]; · iexists _; iexact HL15
  isplitl [HL22]; · iexists _; iexact HL22
  isplitl [HL23]; · iexists _; iexact HL23
  isplitl [HL20]; · iexact HL20
  iexact HL21

end Body

end Cert.Proof.KernelIdealRing

end
-- ==== Proof.Launch.lean ====
module

public import proofs.«01_k».proof.Proof.Body

@[expose] public section

noncomputable section

namespace Cert.Proof.KernelIdealRing

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat BodyObligation)

variable {F : FTy → Type} [FloatOps F]

local notation "𝕄" => MT nD τ sig Unit (Elt F) ℕ (UD sig nD τ) ℕ

/-! ## The row blocks of the weights and the slots of the staging buffers -/

/-- Block `b`'s cells in an up-projection. -/
abbrev setA (b : Fin 8) : Finset S1024x4096.Idx := (Rect.unit (s := S1024x4096) ![128 * b.val, 0] S128x4096.size (blkInbA b)).set
/-- Block `b`'s cells in the down-projection. -/
abbrev setB (b : Fin 16) : Finset S4096x1024.Idx := (Rect.unit (s := S4096x1024) ![256 * b.val, 0] S256x1024.size (blkInbB b)).set
/-- Slot `s`'s cells in the up-projections' buffer. -/
abbrev setSA (s : Fin 2) : Finset S2x128x4096.Idx := (Rect.unit (s := S2x128x4096) ![s.val, 0, 0] S1x128x4096.size (slotInbA s)).set
/-- Slot `s`'s cells in the down-projection's buffer. -/
abbrev setSB (s : Fin 2) : Finset S2x256x1024.Idx := (Rect.unit (s := S2x256x1024) ![s.val, 0, 0] S1x256x1024.size (slotInbB s)).set

/-- A block of the gate projection covers its row block. -/
theorem set_wg (b : Fin 8) : (blkA wg b).view.set = setA b := View.set_slice_whole _ _
/-- A block of the up projection covers its row block. -/
theorem set_wu (b : Fin 8) : (blkA wu b).view.set = setA b := View.set_slice_whole _ _
/-- A block of the down projection covers its row block. -/
theorem set_wd (b : Fin 16) : (blkB wd b).view.set = setB b := View.set_slice_whole _ _
/-- A slot of the up-projections' buffer covers its cells. -/
theorem set_slotA (s : Fin 2) : (slotA s).view.set = setSA s := (View.set_reshape _ _).trans (View.set_slice_whole _ _)
/-- A slot of the down-projection's buffer covers its cells. -/
theorem set_slotB (s : Fin 2) : (slotB s).view.set = setSB s := (View.set_reshape _ _).trans (View.set_slice_whole _ _)

/-- A cell is in block `b` of an up-projection when its row is one of the block's 128. -/
theorem mem_setA (b : Fin 8) (y : S1024x4096.Idx) : y ∈ setA b ↔ 128 * b.val ≤ (y 0).val ∧ (y 0).val < 128 * b.val + 128 := by
  rw [Rect.mem_set_unit]
  have h1 : (y 1).val < 4096 := (y 1).isLt
  constructor
  · intro H; exact H 0
  · intro H i; fin_cases i
    · exact H
    · show 0 ≤ (y 1).val ∧ (y 1).val < 0 + 4096; omega
/-- A cell is in block `b` of the down-projection when its row is one of the block's 256. -/
theorem mem_setB (b : Fin 16) (y : S4096x1024.Idx) : y ∈ setB b ↔ 256 * b.val ≤ (y 0).val ∧ (y 0).val < 256 * b.val + 256 := by
  rw [Rect.mem_set_unit]
  have h1 : (y 1).val < 1024 := (y 1).isLt
  constructor
  · intro H; exact H 0
  · intro H i; fin_cases i
    · exact H
    · show 0 ≤ (y 1).val ∧ (y 1).val < 0 + 1024; omega
/-- A cell of the up-projections' buffer is in slot `s` when its first coordinate is `s`. -/
theorem mem_setSA (s : Fin 2) (y : S2x128x4096.Idx) : y ∈ setSA s ↔ (y 0).val = s.val := by
  rw [Rect.mem_set_unit]
  have h1 : (y 1).val < 128 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 4096; omega
/-- A cell of the down-projection's buffer is in slot `s` when its first coordinate is `s`. -/
theorem mem_setSB (s : Fin 2) (y : S2x256x1024.Idx) : y ∈ setSB s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 1024; omega

/-- Two different blocks of an up-projection share no cell. -/
theorem setA_disjoint : ∀ b b' : Fin 8, b ≠ b' → Disjoint (setA b) (setA b') := by
  intro b b' hne; rw [Finset.disjoint_left]; intro y hy hy'; rw [mem_setA] at hy hy'; exact hne (Fin.ext (by omega))
/-- The blocks of an up-projection hold every cell. -/
theorem setA_cover : (Finset.univ : Finset (Fin 8)).biUnion setA = Finset.univ := by
  ext y; simp only [Finset.mem_biUnion, Finset.mem_univ, true_and, iff_true]
  have h0 : (y 0).val < 1024 := (y 0).isLt
  exact ⟨⟨(y 0).val / 128, by omega⟩, by rw [mem_setA]; dsimp only; omega⟩
/-- Two different blocks of the down-projection share no cell. -/
theorem setB_disjoint : ∀ b b' : Fin 16, b ≠ b' → Disjoint (setB b) (setB b') := by
  intro b b' hne; rw [Finset.disjoint_left]; intro y hy hy'; rw [mem_setB] at hy hy'; exact hne (Fin.ext (by omega))
/-- The blocks of the down-projection hold every cell. -/
theorem setB_cover : (Finset.univ : Finset (Fin 16)).biUnion setB = Finset.univ := by
  ext y; simp only [Finset.mem_biUnion, Finset.mem_univ, true_and, iff_true]
  have h0 : (y 0).val < 4096 := (y 0).isLt
  exact ⟨⟨(y 0).val / 256, by omega⟩, by rw [mem_setB]; dsimp only; omega⟩
/-- Two different slots of the up-projections' buffer share no cell. -/
theorem setSA_disjoint : ∀ s s' : Fin 2, s ≠ s' → Disjoint (setSA s) (setSA s') := by
  intro s s' hne; rw [Finset.disjoint_left]; intro y hy hy'; rw [mem_setSA] at hy hy'; exact hne (Fin.ext (hy.symm.trans hy'))
/-- The slots of the up-projections' buffer hold every cell. -/
theorem setSA_cover : (Finset.univ : Finset (Fin 2)).biUnion setSA = Finset.univ := by
  ext y; simp only [Finset.mem_biUnion, Finset.mem_univ, true_and, iff_true]; exact ⟨(y 0).cast (by decide), by rw [mem_setSA]; rfl⟩
/-- Two different slots of the down-projection's buffer share no cell. -/
theorem setSB_disjoint : ∀ s s' : Fin 2, s ≠ s' → Disjoint (setSB s) (setSB s') := by
  intro s s' hne; rw [Finset.disjoint_left]; intro y hy hy'; rw [mem_setSB] at hy hy'; exact hne (Fin.ext (hy.symm.trans hy'))
/-- The slots of the down-projection's buffer hold every cell. -/
theorem setSB_cover : (Finset.univ : Finset (Fin 2)).biUnion setSB = Finset.univ := by
  ext y; simp only [Finset.mem_biUnion, Finset.mem_univ, true_and, iff_true]; exact ⟨(y 0).cast (by decide), by rw [mem_setSB]; rfl⟩

/-- A family over two is its two members. -/
theorem bigSep_fin2 (P : Fin 2 → sProp 𝕄) : bigSep Finset.univ P = iprop(P 0 ∗ P 1) :=
  bigSep_univ_eq_bigSepL [(0 : Fin 2), (1 : Fin 2)] (by decide) (by decide) P

/-- A weight whole is its row blocks. -/
theorem wg_eq (c : Dev nD) (X : Buf (Elt F) ((c : Thread nD τ).loc main_arg1)) :
    (((c : Thread nD τ).loc main_arg1) ↦{fullShare} X : sProp 𝕄) = bigSep Finset.univ (homePA c wg X) := by
  rw [Ring.pointsTo_blocks (ℓ := (c : Thread nD τ).loc main_arg1) setA setA_disjoint setA_cover]
  exact bigSep_congr fun b _ => by rw [← set_wg]; rfl
/-- The up projection whole is its row blocks. -/
theorem wu_eq (c : Dev nD) (X : Buf (Elt F) ((c : Thread nD τ).loc main_arg2)) :
    (((c : Thread nD τ).loc main_arg2) ↦{fullShare} X : sProp 𝕄) = bigSep Finset.univ (homePA c wu X) := by
  rw [Ring.pointsTo_blocks (ℓ := (c : Thread nD τ).loc main_arg2) setA setA_disjoint setA_cover]
  exact bigSep_congr fun b _ => by rw [← set_wu]; rfl
/-- The down projection whole is its row blocks. -/
theorem wd_eq (c : Dev nD) (X : Buf (Elt F) ((c : Thread nD τ).loc main_arg3)) :
    (((c : Thread nD τ).loc main_arg3) ↦{fullShare} X : sProp 𝕄) = bigSep Finset.univ (homePB c wd X) := by
  rw [Ring.pointsTo_blocks (ℓ := (c : Thread nD τ).loc main_arg3) setB setB_disjoint setB_cover]
  exact bigSep_congr fun b _ => by rw [← set_wd]; rfl

/-- Holding a slot of the up-projections' buffer is holding its cells. -/
theorem slotPA_eq (c : Dev nD) (s : Fin 2) (f) : slotPA c s f = (((c : Thread nD τ).loc cc0_scratch3) ↦[setSA s]{fullShare} f : sProp 𝕄) :=
  congrArg (fun S => (_ ↦[S]{fullShare} f : sProp 𝕄)) (set_slotA s)
/-- Holding a slot of the down-projection's buffer is holding its cells. -/
theorem slotPB_eq (c : Dev nD) (s : Fin 2) (f) : slotPB c s f = (((c : Thread nD τ).loc cc0_scratch4) ↦[setSB s]{fullShare} f : sProp 𝕄) :=
  congrArg (fun S => (_ ↦[S]{fullShare} f : sProp 𝕄)) (set_slotB s)

/-- A staging buffer whole is its two slots, and back. -/
theorem bufA_split (c : Dev nD) :
    iprop(∃ f : Buf (Elt F) ((c : Thread nD τ).loc cc0_scratch3), ((c : Thread nD τ).loc cc0_scratch3) ↦{fullShare} f)
      ⊢ (iprop((∃ f, slotPA c 0 f) ∗ ∃ f, slotPA c 1 f) : sProp 𝕄) := by
  iintro ⟨%f, H⟩
  ihave H2 := (entails_of_eq ((Ring.pointsTo_blocks (Ix := Unit) (Name := ℕ) (U := UD sig nD τ) (Lvl := ℕ) (q := fullShare) (ℓ := (c : Thread nD τ).loc cc0_scratch3) setSA setSA_disjoint setSA_cover f).trans (bigSep_fin2 _))) $$ H
  icases H2 with ⟨H0, H1⟩
  isplitl [H0]
  · iexists f; iapply (entails_of_eq (slotPA_eq c 0 f).symm); iexact H0
  · iexists f; iapply (entails_of_eq (slotPA_eq c 1 f).symm); iexact H1
/-- The two slots of the up-projections' buffer make it whole. -/
theorem bufA_join (c : Dev nD) :
    iprop((∃ f, slotPA c 0 f) ∗ ∃ f, slotPA c 1 f)
      ⊢ (iprop(∃ f : Buf (Elt F) ((c : Thread nD τ).loc cc0_scratch3), ((c : Thread nD τ).loc cc0_scratch3) ↦{fullShare} f) : sProp 𝕄) := by
  iintro ⟨⟨%f0, H0⟩, ⟨%f1, H1⟩⟩
  iapply (Ring.pointsTo_blocks_join_exists (ℓ := (c : Thread nD τ).loc cc0_scratch3) setSA setSA_disjoint setSA_cover f0)
  irw [bigSep_fin2]
  isplitl [H0]
  · iexists f0; iapply (entails_of_eq (slotPA_eq c 0 f0)); iexact H0
  · iexists f1; iapply (entails_of_eq (slotPA_eq c 1 f1)); iexact H1
/-- The down-projection's buffer whole is its two slots. -/
theorem bufB_split (c : Dev nD) :
    iprop(∃ f : Buf (Elt F) ((c : Thread nD τ).loc cc0_scratch4), ((c : Thread nD τ).loc cc0_scratch4) ↦{fullShare} f)
      ⊢ (iprop((∃ f, slotPB c 0 f) ∗ ∃ f, slotPB c 1 f) : sProp 𝕄) := by
  iintro ⟨%f, H⟩
  ihave H2 := (entails_of_eq ((Ring.pointsTo_blocks (Ix := Unit) (Name := ℕ) (U := UD sig nD τ) (Lvl := ℕ) (q := fullShare) (ℓ := (c : Thread nD τ).loc cc0_scratch4) setSB setSB_disjoint setSB_cover f).trans (bigSep_fin2 _))) $$ H
  icases H2 with ⟨H0, H1⟩
  isplitl [H0]
  · iexists f; iapply (entails_of_eq (slotPB_eq c 0 f).symm); iexact H0
  · iexists f; iapply (entails_of_eq (slotPB_eq c 1 f).symm); iexact H1
/-- The two slots of the down-projection's buffer make it whole. -/
theorem bufB_join (c : Dev nD) :
    iprop((∃ f, slotPB c 0 f) ∗ ∃ f, slotPB c 1 f)
      ⊢ (iprop(∃ f : Buf (Elt F) ((c : Thread nD τ).loc cc0_scratch4), ((c : Thread nD τ).loc cc0_scratch4) ↦{fullShare} f) : sProp 𝕄) := by
  iintro ⟨⟨%f0, H0⟩, ⟨%f1, H1⟩⟩
  iapply (Ring.pointsTo_blocks_join_exists (ℓ := (c : Thread nD τ).loc cc0_scratch4) setSB setSB_disjoint setSB_cover f0)
  irw [bigSep_fin2]
  isplitl [H0]
  · iexists f0; iapply (entails_of_eq (slotPB_eq c 0 f0)); iexact H0
  · iexists f1; iapply (entails_of_eq (slotPB_eq c 1 f1)); iexact H1

/-! ## The kernel's own semaphores -/

/-- The kernel's own semaphores: one for each slot. -/
abbrev osem : Fin 2 → SemLoc sig := fun s => .dma (csm s).sem
/-- The kernel's own semaphores are none of the pipeline's. -/
theorem ownSemFacts : Pipeline.OwnSemFacts spec0 osem := by decide
/-- The kernel's own semaphores at rest are the two slots' at zero. -/
theorem ownSems0_eq (c : Dev nD) : (Pipeline.ownSems0 (Ix := Unit) (Name := ℕ) (U := UD sig nD τ) (Lvl := ℕ) (Val := Elt F) (τ := τ) osem c : sProp 𝕄)
    = iprop(cellP c 0 ∗ cellP c 1) := by
  unfold Pipeline.ownSems0; rw [bigSep_fin2]

/-- The weights, which the kernel reads where they lie. -/
abbrev H0 : Finset (Ref sig .tc) := {main_arg1, main_arg2, main_arg3}
/-- The weights are buffers no window uses. -/
theorem H0_sub : H0 ⊆ Pipeline.restRefs sig spec0 := by decide
/-- A family over the weights is its three members. -/
theorem bigSep_H0 (P : Ref sig .tc → sProp 𝕄) : bigSep H0 P = iprop(P main_arg1 ∗ P main_arg2 ∗ P main_arg3) := by
  rw [show H0 = insert main_arg1 (insert main_arg2 ({main_arg3} : Finset (Ref sig .tc))) from rfl, bigSep_insert (by decide), bigSep_insert (by decide), bigSep_singleton]; rfl

/-! ## The buffers at the region's entry -/

section Run

variable (m : (ℓ : Loc nD τ sig) → Buf (Elt F) ℓ) (ρ : Dev nD → PrngReg)

/-- What every buffer holds when the region starts: the launch memory after the host operations. -/
abbrev V (c : Dev nD) (b : Ref sig .tc) : Buf (Elt F) ((c : Thread nD τ).loc b) := StableHlo.after hostOps0 (fun b => m (c, b)) b

/-- No host operation makes a fresh buffer. -/
theorem hostOps0_fresh : (hostOps0 : List (HloOp τ sig (Elt F))).Forall fun op => op.fresh = ∅ := by
  simp only [List.Forall]; repeat' constructor
/-- The program is its host operations and then the region. -/
theorem hmain : Pipeline.HMain (Ix := Unit) (Name := ℕ) (U := UD sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write. -/
abbrev hostOps0_W : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13, main_call0_v14, main_call0_v15, main_call0_v16]
/-- The host operations write only those buffers. -/
theorem hostOps0_writes : (hostOps0 : List (HloOp τ sig (Elt F))).Forall fun op => op.writes ⊆ (hostOps0_W.map (Proc.devRef (τ := τ) .tc)).toFinset :=
  StableHlo.forall_writes_sub_of_map rfl
/-- No host operation writes an argument. -/
theorem V_arg (c : Dev nD) (a : Ref sig .tc) (ha : a ∉ hostOps0_W) : V m c a = m ((c : Thread nD τ).loc a) :=
  StableHlo.after_of_writes_sub hostOps0 _ hostOps0_writes ha

/-! ## The pipeline's proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block of the result the body stores at point `t`. -/
def outAt (c : Dev nD) (t : Fin cfg0.N) : S512x1024.Idx → Elt F .f32 :=
  outF (iblk m c 0 t) (iblk m c 1 t) (iblk m c 2 t) (iblk m c 3 t) (iblk m c 4 t) (iblk m c 5 t)
    (castA c wg (V m c main_arg1)) (castA c wu (V m c main_arg2)) (castB c wd (V m c main_arg3))

/-- The staged gate projection, whole. -/
abbrev sc0 : Memref sig .tc .vmem S1024x4096 .bf16 := Memref.whole cc0_scratch0
/-- The staged up projection, whole. -/
abbrev sc1 : Memref sig .tc .vmem S1024x4096 .bf16 := Memref.whole cc0_scratch1
/-- The staged down projection, whole. -/
abbrev sc2 : Memref sig .tc .vmem S4096x1024 .bf16 := Memref.whole cc0_scratch2

/-- The three staged weights: at point 0 anything, from then on the cast weights. -/
def stagedP (c : Dev nD) (k : ℕ) : sProp 𝕄 :=
  iprop((∃ f, ptsW c sc0 f ∗ ⌜k ≠ 0 → sc0.view.read (Elt F) f = castA c wg (V m c main_arg1)⌝)
    ∗ (∃ f, ptsW c sc1 f ∗ ⌜k ≠ 0 → sc1.view.read (Elt F) f = castA c wu (V m c main_arg2)⌝)
    ∗ (∃ f, ptsW c sc2 f ∗ ⌜k ≠ 0 → sc2.view.read (Elt F) f = castB c wd (V m c main_arg3)⌝))

/-- The invariant before point `k`: the staged weights, all the staging loops use at rest, the generator's register. -/
def Φ (c : Dev nD) (k : ℕ) : sProp 𝕄 :=
  iprop(stagedP m c k ∗ ringP c (V m c main_arg1) (V m c main_arg2) (V m c main_arg3) ∗ ∃ r, prngReg c r)

/-- What each window holds before and after each point, with the invariant between points. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Φ m c t.val
  q _ := fullShare
  owed _ := 0

/-- Before a point, window 0 holds its block. -/
theorem before_w0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
/-- Before a point, window 1 holds its block. -/
theorem before_w1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
/-- Before a point, window 2 holds its block. -/
theorem before_w2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
/-- Before a point, window 3 holds its block. -/
theorem before_w3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
/-- Before a point, window 4 holds its block. -/
theorem before_w4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
/-- Before a point, window 5 holds its block. -/
theorem before_w5 (c : Dev nD) (t : Fin cfg0.N) (d) : (dats m 0 c).before 5 t d = iblk m c 5 t :=
  ((dats m 0 c).before_in_eq_fetched 5 rfl (fun _ => rfl) (fun _ _ _ => rfl) (fun t => rfl) t d).trans rfl

/-- A point leaves window 0 as it found it. -/
theorem after_w0 (c : Dev nD) (t : Fin cfg0.N) : (dats m 0 c).after 0 t = iblk m c 0 t := by dsimp only [dats]
/-- A point leaves window 1 as it found it. -/
theorem after_w1 (c : Dev nD) (t : Fin cfg0.N) : (dats m 0 c).after 1 t = iblk m c 1 t := by dsimp only [dats]
/-- A point leaves window 2 as it found it. -/
theorem after_w2 (c : Dev nD) (t : Fin cfg0.N) : (dats m 0 c).after 2 t = iblk m c 2 t := by dsimp only [dats]
/-- A point leaves window 3 as it found it. -/
theorem after_w3 (c : Dev nD) (t : Fin cfg0.N) : (dats m 0 c).after 3 t = iblk m c 3 t := by dsimp only [dats]
/-- A point leaves window 4 as it found it. -/
theorem after_w4 (c : Dev nD) (t : Fin cfg0.N) : (dats m 0 c).after 4 t = iblk m c 4 t := by dsimp only [dats]
/-- A point leaves window 5 as it found it. -/
theorem after_w5 (c : Dev nD) (t : Fin cfg0.N) : (dats m 0 c).after 5 t = iblk m c 5 t := by dsimp only [dats]
/-- A point leaves its block of the result in window 6. -/
theorem after_w6 (c : Dev nD) (t : Fin cfg0.N) : (dats m 0 c).after 6 t = outAt m c t := by dsimp only [dats]

/-! ## The body obligation -/

/-- The body a point runs is the kernel on that point's staging blocks. -/
theorem prog_eq (t : Fin cfg0.N) : defs₀ (F := F) .tc cfg0.body (cfg0.bodyArgs t (cfg0.slots t))
    = bodyG (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _) :=
  (show _ = bodyAt0 t by unfold defs₀; rw [Defs.onTc_tc]).trans rfl

/-- The staging branch is taken at the first point and only there. -/
theorem cond_zero : ∀ t : Fin grid0.N, k0_cond1 (grid0.coords t) = 1#1 ↔ t.val = 0 := by decide

set_option backward.isDefEq.respectTransparency.types false in
/-- Every point, from the invariant before it, leaves what its windows should hold and the invariant after it. -/
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, before_w5, after_w0, after_w1, after_w2, after_w3, after_w4, after_w5, after_w6]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ stagedP
  iintro ⟨⟨⟨⟨%e0, HS0, %he0⟩, ⟨%e1, HS1, %he1⟩, ⟨%e2, HS2, %he2⟩⟩, HR, HP⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, -, H6⟩⟩
  sl_rw [prog_eq t]
  by_cases hz : t.val = 0
  · iapply (wp_wand_r Idealize.ShloMosaic.frame (wpE (defs₀ (F := F)) 𝒱₀ (c : Thread nD τ) none) Set.univ)
    isplitl [H0 H1 H2 H3 H4 H5 H6 HS0 HS1 HS2 HW HR]
    · iapply (bodyRun_first c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _)
      g0 g1 g2 g3 g4 g5 g6 e0 e1 e2 (V m c main_arg1) (V m c main_arg2) (V m c main_arg3) ((cond_zero t).mpr hz) W)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [HS0]; · iexact HS0
      isplitl [HS1]; · iexact HS1
      isplitl [HS2]; · iexact HS2
      isplitl [HW]; · iexact HW
      iexact HR
    · iintro %_ ⟨⟨H0, H1, H2, H3, H4, H5⟩, ⟨%gO, H6, %hO⟩, ⟨%q0, HS0, %hq0⟩, ⟨%q1, HS1, %hq1⟩, ⟨%q2, HS2, %hq2⟩, ⟨%W', HW⟩, HR⟩
      isplitl [HS0 HS1 HS2 HR HP]
      · isplitl [HS0 HS1 HS2]
        · isplitl [HS0]
          · iexists q0; isplitl [HS0]; · iexact HS0
            ipureintro; exact fun _ => hq0
          isplitl [HS1]
          · iexists q1; isplitl [HS1]; · iexact HS1
            ipureintro; exact fun _ => hq1
          iexists q2; isplitl [HS2]; · iexact HS2
          ipureintro; exact fun _ => hq2
        isplitl [HR]; · iexact HR
        iexact HP
      isplitl [HW]
      · iexists W'; isplitr; · ipureintro; exact fun _ _ => Or.inl trivial
        iexact HW
      isplitl [H0]
      · iexists g0; isplitr; · ipureintro; exact hg0
        iexact H0
      isplitl [H1]
      · iexists g1; isplitr; · ipureintro; exact hg1
        iexact H1
      isplitl [H2]
      · iexists g2; isplitr; · ipureintro; exact hg2
        iexact H2
      isplitl [H3]
      · iexists g3; isplitr; · ipureintro; exact hg3
        iexact H3
      isplitl [H4]
      · iexists g4; isplitr; · ipureintro; exact hg4
        iexact H4
      isplitl [H5]
      · iexists g5; isplitr; · ipureintro; exact hg5
        iexact H5
      iexists gO; isplitr
      · ipureintro; rw [hO]; unfold outAt; rw [hg0, hg1, hg2, hg3, hg4, hg5]
      iexact H6
  · iapply (wp_wand_r Idealize.ShloMosaic.frame (wpE (defs₀ (F := F)) 𝒱₀ (c : Thread nD τ) none) Set.univ)
    isplitl [H0 H1 H2 H3 H4 H5 H6 HS0 HS1 HS2]
    · iapply (bodyRun_later c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6)) sc0 (Memref.isWhole_whole _) sc1 (Memref.isWhole_whole _) sc2 (Memref.isWhole_whole _)
      g0 g1 g2 g3 g4 g5 g6 e0 e1 e2 (fun h => hz ((cond_zero t).mp h)))
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [HS0]; · iexact HS0
      isplitl [HS1]; · iexact HS1
      iexact HS2
    · iintro %_ ⟨⟨H0, H1, H2, H3, H4, H5⟩, ⟨%gO, H6, %hO⟩, HS0, HS1, HS2⟩
      isplitl [HS0 HS1 HS2 HR HP]
      · isplitl [HS0 HS1 HS2]
        · isplitl [HS0]
          · iexists e0; isplitl [HS0]; · iexact HS0
            ipureintro; exact fun _ => he0 hz
          isplitl [HS1]
          · iexists e1; isplitl [HS1]; · iexact HS1
            ipureintro; exact fun _ => he1 hz
          iexists e2; isplitl [HS2]; · iexact HS2
          ipureintro; exact fun _ => he2 hz
        isplitl [HR]; · iexact HR
        iexact HP
      isplitl [HW]
      · iexists W; isplitr; · ipureintro; exact fun _ _ => Or.inl trivial
        iexact HW
      isplitl [H0]
      · iexists g0; isplitr; · ipureintro; exact hg0
        iexact H0
      isplitl [H1]
      · iexists g1; isplitr; · ipureintro; exact hg1
        iexact H1
      isplitl [H2]
      · iexists g2; isplitr; · ipureintro; exact hg2
        iexact H2
      isplitl [H3]
      · iexists g3; isplitr; · ipureintro; exact hg3
        iexact H3
      isplitl [H4]
      · iexists g4; isplitr; · ipureintro; exact hg4
        iexact H4
      isplitl [H5]
      · iexists g5; isplitr; · ipureintro; exact hg5
        iexact H5
      iexists gO; isplitr
      · ipureintro; rw [hO]; unfold outAt; rw [hg0, hg1, hg2, hg3, hg4, hg5, he0 hz, he1 hz, he2 hz]
      iexact H6

/-! ## The run and the frame -/

/-- Holding the staged gate projection, in its two spellings. -/
theorem pts_sc0 (c : Dev nD) (f) : (((c : Thread nD τ).loc cc0_scratch0) ↦{fullShare} f : sProp 𝕄) = ptsW c sc0 f := by
  unfold ptsW; rw [View.set_whole]
/-- Holding the staged up projection, in its two spellings. -/
theorem pts_sc1 (c : Dev nD) (f) : (((c : Thread nD τ).loc cc0_scratch1) ↦{fullShare} f : sProp 𝕄) = ptsW c sc1 f := by
  unfold ptsW; rw [View.set_whole]
/-- Holding the staged down projection, in its two spellings. -/
theorem pts_sc2 (c : Dev nD) (f) : (((c : Thread nD τ).loc cc0_scratch2) ↦{fullShare} f : sProp 𝕄) = ptsW c sc2 f := by
  unfold ptsW; rw [View.set_whole]

/-- What the region starts with gives the invariant before point 0. -/
theorem Φ_in (c : Dev nD) : Pipeline.ΦD osem spec0 H0 (V m) c ⊢ Φ m c 0 := by
  rw [Pipeline.ΦD_eq, scopedRest0_eq, ownSems0_eq, bigSep_H0, wg_eq, wu_eq, wd_eq]
  simp only [pts_sc0, pts_sc1, pts_sc2]
  unfold Φ stagedP ringP
  iintro ⟨⟨⟨%f0, H0⟩, ⟨%f1, H1⟩, ⟨%f2, H2⟩, HA, HB⟩, HP, ⟨Hc0, Hc1⟩, Hg, Hu, Hd⟩
  ihave HA' := (bufA_split c) $$ HA
  icases HA' with ⟨HA0, HA1⟩
  ihave HB' := (bufB_split c) $$ HB
  icases HB' with ⟨HB0, HB1⟩
  isplitl [H0 H1 H2]
  · isplitl [H0]
    · iexists f0; isplitl [H0]; · iexact H0
      ipureintro; exact fun h => absurd rfl h
    isplitl [H1]
    · iexists f1; isplitl [H1]; · iexact H1
      ipureintro; exact fun h => absurd rfl h
    iexists f2; isplitl [H2]; · iexact H2
    ipureintro; exact fun h => absurd rfl h
  isplitr [HP]
  · isplitl [Hg]; · iexact Hg
    isplitl [Hu]; · iexact Hu
    isplitl [Hd]; · iexact Hd
    isplitl [HA0]; · iexact HA0
    isplitl [HA1]; · iexact HA1
    isplitl [HB0]; · iexact HB0
    isplitl [HB1]; · iexact HB1
    isplitl [Hc0]; · iexact Hc0
    iexact Hc1
  iexact HP

/-- The invariant gives back what the region started with. -/
theorem Φ_out (c : Dev nD) (k : ℕ) : Φ m c k ⊢ Pipeline.ΦD osem spec0 H0 (V m) c := by
  rw [Pipeline.ΦD_eq, scopedRest0_eq, ownSems0_eq, bigSep_H0, wg_eq, wu_eq, wd_eq]
  simp only [pts_sc0, pts_sc1, pts_sc2]
  unfold Φ stagedP ringP
  iintro ⟨⟨⟨%f0, H0, -⟩, ⟨%f1, H1, -⟩, ⟨%f2, H2, -⟩⟩, ⟨Hg, Hu, Hd, HA0, HA1, HB0, HB1, Hc0, Hc1⟩, HP⟩
  isplitl [H0 H1 H2 HA0 HA1 HB0 HB1]
  · isplitl [H0]; · iexists f0; iexact H0
    isplitl [H1]; · iexists f1; iexact H1
    isplitl [H2]; · iexists f2; iexact H2
    isplitl [HA0 HA1]
    · iapply (bufA_join c)
      isplitl [HA0]; · iexact HA0
      iexact HA1
    iapply (bufB_join c)
    isplitl [HB0]; · iexact HB0
    iexact HB1
  isplitl [HP]; · iexact HP
  isplitl [Hc0 Hc1]
  · isplitl [Hc0]; · iexact Hc0
    iexact Hc1
  isplitl [Hg]; · iexact Hg
  isplitl [Hu]; · iexact Hu
  iexact Hd

set_option backward.isDefEq.respectTransparency.types false in
/-- Every execution of @main terminates, the result's array ends at the computed contents, every other unscoped buffer
    at what the region found, every semaphore at zero. -/
theorem run_main : θ_run defs (onTc (τ := τ) (main (F := F))) (s₀ m ρ) (fun r => Pipeline.FramePost cfgs (dats m) 0 (V m) r ∧ r.2.sem = fun _ => 0) :=
  Pipeline.θ_run_frame_dma cfgs (dats m) (0 : Fin 1) launch0 osem defs₀ 𝒱₀ ownSemFacts H0 H0_sub m ρ main
    (hbody := fun c => (body_obligation m c).loose) (hshare := fun c => (dats m 0 c).share_full fun _ => rfl)
    (howed := fun _ _ => rfl) (V := V m) (hmain := hmain m) (hA := fun _ _ => rfl)
    (hin := fun c => Φ_in m c) (hout := fun c => Φ_out m c _) (Q' := _) (hQ' := fun _ h => h)

/-- An argument ends as it was at launch. -/
theorem arg_end {r : PUnit × MemSt nD τ sig (Elt F)} (h : Pipeline.FramePost cfgs (dats m) 0 (V m) r) (c : Dev nD)
    (a : Ref sig .tc) (h1 : a ∈ Pipeline.restRefs sig spec0) (h2 : a ∉ hostOps0_W) :
    r.2.mem ((c : Thread nD τ).loc a) = m ((c : Thread nD τ).loc a) := ((h c).2 a h1).trans (V_arg m c a h2)

/-- The thirteen arguments end as they were. -/
theorem args_end {r : PUnit × MemSt nD τ sig (Elt F)} (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12) :=
  have k := fun a h1 h2 => arg_end m h c a h1 h2
  ⟨k main_arg0 (by decide) (by decide), k main_arg1 (by decide) (by decide), k main_arg2 (by decide) (by decide), k main_arg3 (by decide) (by decide),
   k main_arg4 (by decide) (by decide), k main_arg5 (by decide) (by decide), k main_arg6 (by decide) (by decide), k main_arg7 (by decide) (by decide),
   k main_arg8 (by decide) (by decide), k main_arg9 (by decide) (by decide), k main_arg10 (by decide) (by decide), k main_arg11 (by decide) (by decide),
   k main_arg12 (by decide) (by decide)⟩

end Run

end Cert.Proof.KernelIdealRing

namespace Cert.Proof.KernelIdealRing

open Idealize.ShloMosaic Idealize.SL.Sem

/-- The frame claim: the arguments end unchanged and every semaphore at zero. -/
theorem frame : Cert.quiescent_KernelIdeal (hKernelIdeal := Cert.KernelIdeal.Gen.facts) := fun m ρ _ =>
  (θ_run _ _ _).mono (fun _ h => ⟨fun c => args_end m h.1 c, h.2⟩) (run_main m ρ)

end Cert.Proof.KernelIdealRing

end
-- ==== Proof.Spec.lean ====
module

public import Idealize.ShloMosaic.PureOps.Ideal.Laws
public import Idealize.ShloMosaic.Lib.IdealHost

/-!
The function both programs compute, over the extended reals and plain coordinates, in the two
forms in which they compute it, and the equality of the two forms on rows whose router logits are
finite.
-/

@[expose] public section

noncomputable section

namespace Cert.Proof.Spec

open Idealize.ShloMosaic
open scoped BigOperators

/-! ## Finite extended reals -/

/-- An extended real that is a real. -/
def IsFin (x : EReal) : Prop := ∃ r : ℝ, x = (r : EReal)

/-- A real is finite. -/
theorem IsFin.coe (r : ℝ) : IsFin (r : EReal) := ⟨r, rfl⟩
/-- Zero is finite. -/
theorem IsFin.zero : IsFin 0 := ⟨0, by simp⟩

/-- A sum of two finite numbers is finite. -/
theorem IsFin.add {x y : EReal} : IsFin x → IsFin y → IsFin (x + y) := by
  rintro ⟨a, rfl⟩ ⟨b, rfl⟩; exact ⟨a + b, by simp⟩

/-- A product of two finite numbers is finite. -/
theorem IsFin.mul {x y : EReal} : IsFin x → IsFin y → IsFin (x * y) := by
  rintro ⟨a, rfl⟩ ⟨b, rfl⟩; exact ⟨a * b, by simp⟩

/-- A difference of two finite numbers is finite. -/
theorem IsFin.sub {x y : EReal} : IsFin x → IsFin y → IsFin (x - y) := by
  rintro ⟨a, rfl⟩ ⟨b, rfl⟩; exact ⟨a - b, by simp⟩

/-- A finite sum of finite numbers is finite. -/
theorem IsFin.sum {ι : Type} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self _ _)).add (ih fun i hi => h i (Finset.mem_insert_of_mem hi))

/-- A finite sum of reals, taken among the extended reals, is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A number whose absolute value is below infinity is finite. -/
theorem IsFin.of_abs_lt {x : EReal} (h : max x (-x) < ⊤) : IsFin x := by
  induction x using EReal.rec with
  | bot => simp at h
  | top => simp at h
  | coe r => exact ⟨r, rfl⟩

/-- The exponential of a finite number is a positive real. -/
theorem exp_pos_fin {x : EReal} (h : IsFin x) : ∃ r : ℝ, 0 < r ∧ Ideal.exp x = (r : EReal) := by
  obtain ⟨a, rfl⟩ := h
  exact ⟨Real.exp a, Real.exp_pos a, rfl⟩

/-- A quotient of reals with a divisor above zero is the real quotient. -/
theorem div_coe {a b : ℝ} (hb : 0 < b) : Ideal.div (a : EReal) (b : EReal) = ((a / b : ℝ) : EReal) := by
  have h0 : ((b : ℝ) : EReal) ≠ 0 := by exact_mod_cast hb.ne'
  rw [Ideal.div, if_neg h0, div_eq_mul_inv, EReal.coe_mul, EReal.coe_inv]

/-- The logistic function of a finite number is finite. -/
theorem IsFin.logistic {x : EReal} (h : IsFin x) : IsFin (Ideal.logistic x) := by
  obtain ⟨a, rfl⟩ := h
  obtain ⟨r, hr, e⟩ := exp_pos_fin (x := -(a : EReal)) ⟨-a, by simp⟩
  refine ⟨1 / (1 + r), ?_⟩
  rw [Ideal.logistic, e, ← div_coe (by linarith)]
  simp

/-! ## The router's gate -/

/-- The greatest of eight logits. -/
def top (l : Fin 8 → EReal) : EReal := (Finset.univ : Finset (Fin 8)).fold max ⊥ l

/-- One entry of the softmax of eight logits. -/
def gate (l : Fin 8 → EReal) (e : Fin 8) : EReal :=
  Ideal.div (Ideal.exp (l e - top l)) (∑ k : Fin 8, Ideal.exp (l k - top l))

/-- The greatest of finitely many finite numbers, of which there is one, is finite. -/
theorem fold_max_fin {ι : Type} (s : Finset ι) (l : ι → EReal) (h : ∀ e ∈ s, IsFin (l e)) :
    s.fold max ⊥ l = ⊥ ∧ s = ∅ ∨ IsFin (s.fold max ⊥ l) := by
  classical
  induction s using Finset.induction_on with
  | empty => exact .inl ⟨by simp, rfl⟩
  | insert a s ha ih =>
    right
    rw [Finset.fold_insert ha]
    have h1 := h a (Finset.mem_insert_self _ _)
    rcases ih fun i hi => h i (Finset.mem_insert_of_mem hi) with ⟨hb, _⟩ | hf
    · rw [hb, max_eq_left bot_le]; exact h1
    · rcases max_choice (l a) (s.fold max ⊥ l) with e | e <;> rw [e] <;> assumption

/-- The greatest of eight finite logits is finite. -/
theorem top_fin (l : Fin 8 → EReal) (h : ∀ e, IsFin (l e)) : IsFin (top l) := by
  rcases fold_max_fin Finset.univ l fun e _ => h e with ⟨_, h0⟩ | h
  · exact absurd h0 (Finset.univ_nonempty.ne_empty)
  · exact h

/-- The gate of finite logits is a nonnegative real. -/
theorem gate_real (l : Fin 8 → EReal) (h : ∀ e, IsFin (l e)) (e : Fin 8) : ∃ r : ℝ, 0 ≤ r ∧ gate l e = (r : EReal) := by
  choose f hf he using fun k => exp_pos_fin ((h k).sub (top_fin l h))
  have hs : (∑ k : Fin 8, Ideal.exp (l k - top l)) = ((∑ k : Fin 8, f k : ℝ) : EReal) := by
    rw [Finset.sum_congr rfl fun k _ => he k, sum_coe]
  have hp : 0 < ∑ k : Fin 8, f k := Finset.sum_pos (fun k _ => hf k) Finset.univ_nonempty
  exact ⟨f e / ∑ k, f k, (div_pos (hf e) hp).le, by rw [gate, hs, he, div_coe hp]⟩

/-! ## The mixture of experts, as each program associates it -/

/-- A nonnegative real distributes over a finite sum of extended reals, whatever they are. -/
theorem mul_sum_real {ι : Type} (s : Finset ι) (f : ι → EReal) {g : ℝ} (hg : 0 ≤ g) :
    (g : EReal) * ∑ i ∈ s, f i = ∑ i ∈ s, (g : EReal) * f i := by
  classical
  induction s using Finset.induction_on with
  | empty => simp
  | insert a s ha ih =>
    rw [Finset.sum_insert ha, Finset.sum_insert ha,
      EReal.left_distrib_of_nonneg_of_ne_top (by exact_mod_cast hg) (EReal.coe_ne_top g), ih]

/-- The mixture with the experts' outputs formed first, doubled, and then weighed by the gates. -/
def mixR (g : Fin 8 → EReal) (h b : Fin 8 → Fin 8 → EReal) : EReal :=
  ∑ e : Fin 8, g e * ((∑ r : Fin 8, h e r * b e r) * 2)

/-- The expert of a column among the sixty-four concatenated ones. -/
def ex (c : Fin 64) : Fin 8 := ⟨c.val / 8, by omega⟩
/-- The rank coordinate of such a column. -/
def rk (c : Fin 64) : Fin 8 := ⟨c.val % 8, by omega⟩

/-- The matrix that spreads eight gates over sixty-four columns and doubles them. -/
def sel (e : Fin 8) (c : Fin 64) : EReal := if ex c = e then 2 else 0

/-- The mixture with the spread gates multiplied into the hidden values, one product over the
    sixty-four concatenated columns. -/
def mixK (g : Fin 8 → EReal) (h b : Fin 64 → EReal) : EReal :=
  ∑ c : Fin 64, (h c * ∑ e : Fin 8, g e * sel e c) * b c

/-- The spread gate of a column is twice its expert's gate. -/
theorem sum_sel (g : Fin 8 → EReal) (c : Fin 64) : ∑ e : Fin 8, g e * sel e c = g (ex c) * 2 := by
  rw [Finset.sum_eq_single (ex c) (fun e _ he => by rw [sel, if_neg (Ne.symm he), mul_zero])
    (fun h => absurd (Finset.mem_univ _) h), sel, if_pos rfl]

/-- The two forms of the mixture are equal when the gates are nonnegative reals. -/
theorem mixK_eq (g : Fin 8 → EReal) (hg : ∀ e, ∃ r : ℝ, 0 ≤ r ∧ g e = (r : EReal)) (h b : Fin 8 → Fin 8 → EReal) :
    mixK g (fun c => h (ex c) (rk c)) (fun c => b (ex c) (rk c)) = mixR g h b := by
  unfold mixK mixR
  simp only [sum_sel]
  rw [← Equiv.sum_comp (finProdFinEquiv : Fin 8 × Fin 8 ≃ Fin 64), Fintype.sum_prod_type]
  refine Finset.sum_congr rfl fun e _ => ?_
  obtain ⟨r, hr, he⟩ := hg e
  have hex : ∀ q : Fin 8, ex (finProdFinEquiv (e, q)) = e := fun q =>
    Fin.ext (by show (q.val + 8 * e.val) / 8 = e.val; omega)
  have hrk : ∀ q : Fin 8, rk (finProdFinEquiv (e, q)) = q := fun q =>
    Fin.ext (by show (q.val + 8 * e.val) % 8 = q.val; omega)
  have h2 : ((2 : ℝ) : EReal) = 2 := rfl
  simp only [hex, hrk]
  rw [he, mul_comm (∑ q, h e q * b e q) 2, ← h2, mul_sum_real _ _ (by norm_num), mul_sum_real _ _ hr]
  refine Finset.sum_congr rfl fun q _ => ?_
  rw [mul_comm (h e q), mul_assoc, mul_assoc]

/-! ## One projection with its mixture -/

/-- An inner product. -/
def dot {K : ℕ} (x w : Fin K → EReal) : EReal := ∑ k : Fin K, x k * w k

/-- One entry of a projection plus its mixture, as the reference associates it: `x` the row, `w` the
    weight column, `wr` the router's columns, `a` the first expert factor, `b` the second's column. -/
def projR {K : ℕ} (x w : Fin K → EReal) (wr : Fin 8 → Fin K → EReal) (a : Fin 8 → Fin 8 → Fin K → EReal)
    (b : Fin 8 → Fin 8 → EReal) : EReal :=
  dot x w + mixR (gate fun e => dot x (wr e)) (fun e r => dot x (a e r)) b

/-- The same as the kernel associates it, the expert factors by concatenated column. -/
def projK {K : ℕ} (x w : Fin K → EReal) (wr : Fin 8 → Fin K → EReal) (a : Fin 64 → Fin K → EReal)
    (b : Fin 64 → EReal) : EReal :=
  dot x w + mixK (gate fun e => dot x (wr e)) (fun c => dot x (a c)) b

/-- An inner product of finite numbers is finite. -/
theorem dot_fin {K : ℕ} {x w : Fin K → EReal} (hx : ∀ k, IsFin (x k)) (hw : ∀ k, IsFin (w k)) : IsFin (dot x w) :=
  IsFin.sum _ _ fun k _ => (hx k).mul (hw k)

/-- The two forms of a projection agree when the row and the router are finite. -/
theorem projK_eq {K : ℕ} (x w : Fin K → EReal) (wr : Fin 8 → Fin K → EReal) (a : Fin 8 → Fin 8 → Fin K → EReal)
    (b : Fin 8 → Fin 8 → EReal) (hx : ∀ k, IsFin (x k)) (hr : ∀ e k, IsFin (wr e k)) :
    projK x w wr (fun c => a (ex c) (rk c)) (fun c => b (ex c) (rk c)) = projR x w wr a b := by
  unfold projK projR
  exact congrArg (dot x w + ·) (mixK_eq _ (fun e => gate_real _ (fun e => dot_fin hx (hr e)) e) (fun e r => dot x (a e r)) b)

/-- A projection of finite operands is finite. -/
theorem projR_fin {K : ℕ} {x w : Fin K → EReal} {wr : Fin 8 → Fin K → EReal} {a : Fin 8 → Fin 8 → Fin K → EReal}
    {b : Fin 8 → Fin 8 → EReal} (hx : ∀ k, IsFin (x k)) (hw : ∀ k, IsFin (w k)) (hr : ∀ e k, IsFin (wr e k))
    (ha : ∀ e r k, IsFin (a e r k)) (hb : ∀ e r, IsFin (b e r)) : IsFin (projR x w wr a b) := by
  refine (dot_fin hx hw).add (IsFin.sum _ _ fun e _ => ?_)
  obtain ⟨g, _, hg⟩ := gate_real (fun e => dot x (wr e)) (fun e => dot_fin hx (hr e)) e
  rw [hg]
  exact (IsFin.coe g).mul ((IsFin.sum _ _ fun r _ => (dot_fin hx (ha e r)).mul (hb e r)).mul ⟨2, rfl⟩)

/-! ## The gated unit -/

/-- One hidden entry from the gate and up projections: `u · (g · logistic g)` in the programs' order. -/
def glu (g u : EReal) : EReal := (g * Ideal.logistic g) * u

/-- The gated unit of finite numbers is finite. -/
theorem glu_fin {g u : EReal} (hg : IsFin g) (hu : IsFin u) : IsFin (glu g u) := (hg.mul hg.logistic).mul hu

end Cert.Proof.Spec
-- ==== Proof.Pay.lean ====
module

public import proofs.«01_k».proof.Proof.Body
public import proofs.«01_k».proof.Proof.Spec
public import Idealize.ShloMosaic.Lib.MatmulPlain
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.Pipeline.Value

/-!
The block a grid point stores, read at one entry over the extended reals: a projection of the
hidden row, which is the gated unit of two projections of the x row, each in the kernel's
association.
-/

@[expose] public section

noncomputable section

namespace Cert.Proof.KernelIdealRing

open Cert.KernelIdeal Cert.KernelIdeal.Gen
open Idealize.ShloMosaic Idealize.ShloMosaic.ValueIdx
open Cert.Proof
open scoped BigOperators

/-- A plain product onto zero, read at an entry, is the inner product of a row and a column. -/
theorem mm_apply {M K N : ℕ} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c)
      = Spec.dot (fun k => lhs (ix2 r k)) (fun k => rhs (ix2 k c)) := by
  subst hd
  refine (Ideal.matmul_plain_apply none lhs rhs _ r c).trans ?_
  show Ideal.ofBits .f32 0x00000000#32 + _ = _
  rw [Ideal.ofBits_zero_f32, zero_add]
  rfl

/-- A rectangle of a matrix, read at an entry, is the matrix at the entry moved by the offsets. -/
theorem cut_apply {n0 n1 m0 m1 : ℕ} {α : Type} (o0 o1 : ℕ) (inb : ∀ a, (![o0, o1] : Fin 2 → ℕ) a + (![m0, m1] : Fin 2 → ℕ) a ≤ (⟨2, ![n0, n1]⟩ : Shape).size a)
    (v : (⟨2, ![n0, n1]⟩ : Shape).Idx → α) (a : Fin m0) (b : Fin m1) (a' : Fin n0) (b' : Fin n1) (ha : a'.val = o0 + a.val) (hb : b'.val = o1 + b.val) :
    cut (Rect.unit (s := ⟨2, ![n0, n1]⟩) ![o0, o1] ![m0, m1] inb) v (ix2 a b) = v (ix2 a' b') :=
  congrArg v (Shape.idx_ext₂ (by simp [Rect.unit, ha]) (by simp [Rect.unit, hb]))

/-- The softmax of a block's eight columns, read at an entry, is the gate of the row's logits. -/
theorem softmax_apply (v : FVec Ideal S512x8 .f32) (y : Fin 512) (e : Fin 8) :
    divf (exp (subf v (broadcastTo S512x8 (shapeCast S512x1 (multiReduction .maximumf [1] S512 v 0xFF800000#32 reduces_S512x8_S512 (.inl rfl) rfl) shapeCasts_S512_S512x1) broadcasts_S512x1_S512x8)))
      (broadcastTo S512x8 (shapeCast S512x1 (multiReduction .add [1] S512
        (exp (subf v (broadcastTo S512x8 (shapeCast S512x1 (multiReduction .maximumf [1] S512 v 0xFF800000#32 reduces_S512x8_S512 (.inl rfl) rfl) shapeCasts_S512_S512x1) broadcasts_S512x1_S512x8)))
        0x00000000#32 reduces_S512x8_S512 (.inl rfl) rfl) shapeCasts_S512_S512x1) broadcasts_S512x1_S512x8) (ix2 y e)
      = Spec.gate (fun k => v (ix2 y k)) e := by
  have col : ∀ (w : FVec Ideal S512 .f32) (k : Fin 8),
      broadcastTo S512x8 (shapeCast S512x1 w shapeCasts_S512_S512x1) broadcasts_S512x1_S512x8 (ix2 y k) = w (ix1 y) := fun w k =>
    (broadcastTo_apply _ _ (ix2 y k) (ix2 y (0 : Fin 1)) (fun a => by match a with | ⟨0, _⟩ => rfl | ⟨1, _⟩ => rfl)).trans
      (shapeCast_a_a1_apply w _ y 0)
  have lift : ∀ k : Fin 8, reduces_S512x8_S512.lift (ix1 y) k = ix2 y k := fun k => by
    funext a; match a with | ⟨0, _⟩ => rfl | ⟨1, _⟩ => rfl
  have hb : Ideal.ofBits .f32 0xFF800000#32 = ⊥ := by simp [Ideal.ofBits, Ideal.ieee]
  have hmax : multiReduction .maximumf [1] S512 v 0xFF800000#32 reduces_S512x8_S512 (.inl rfl) rfl (ix1 y) = Spec.top (fun k => v (ix2 y k)) := by
    refine (Ideal.multiReduction_maximumf_single v _ _ _ _ _).trans ?_
    show (Finset.univ : Finset (Fin 8)).fold max (Ideal.ofBits .f32 0xFF800000#32) _ = _
    rw [hb, Spec.top]
    exact congrArg (fun f => (Finset.univ : Finset (Fin 8)).fold max ⊥ f) (funext fun k => congrArg v (lift k))
  have hex : ∀ k, exp (subf v (broadcastTo S512x8 (shapeCast S512x1 (multiReduction .maximumf [1] S512 v 0xFF800000#32 reduces_S512x8_S512 (.inl rfl) rfl) shapeCasts_S512_S512x1) broadcasts_S512x1_S512x8)) (ix2 y k)
      = Ideal.exp (v (ix2 y k) - Spec.top (fun k => v (ix2 y k))) := fun k => by
    show Ideal.exp (v (ix2 y k) - broadcastTo S512x8 _ _ (ix2 y k)) = _
    rw [col, hmax]
  rw [divf_apply, col, hex]
  refine congrArg (Ideal.div _) ((Ideal.multiReduction_add_single _ _ _ _ _ _).trans (Finset.sum_congr rfl fun k _ => ?_))
  exact (congrArg _ (lift k)).trans (hex k)

/-- The hidden values times the spread gates, read at an entry. -/
theorem spread_apply (v13 : FVec Ideal S512x64 .f32) (v23 : FVec Ideal S512x8 .f32) (C : IVec S8x64 1)
    (hC : ∀ (e : Fin 8) (c : Fin 64), C (ix2 e c) = if Spec.ex c = e then 1#1 else 0#1) (y : Fin 512) (c : Fin 64) :
    (truncf .bf16 (mulf v13 (matmul dot_S512x8_S8x64_S512x64_1_0_0_1_n_n none v23
      (select C (broadcast S8x64 (Scalar.ofBits .f32 0x40000000#32)) (broadcast S8x64 (Scalar.ofBits .f32 0x00000000#32)))
      (constant S512x64 .f32 0x00000000#32))) bitsLt_bf16_f32 : FVec Ideal S512x64 .bf16) (ix2 y c)
      = v13 (ix2 y c) * ∑ e : Fin 8, v23 (ix2 y e) * Spec.sel e c := by
  rw [truncf_apply, mulf_apply]
  refine congrArg (v13 (ix2 y c) * ·) ((mm_apply dot_S512x8_S8x64_S512x64_1_0_0_1_n_n rfl _ _ y c).trans ?_)
  refine (Finset.sum_congr rfl fun e _ => congrArg (v23 (ix2 y e) * ·) ?_)
  show Scalar.select (C (ix2 e c)) (Ideal.ofBits .f32 0x40000000#32) (Ideal.ofBits .f32 0x00000000#32) = Spec.sel e c
  rw [hC, Spec.sel]
  have h2 : Ideal.ofBits .f32 0x40000000#32 = 2 := by
    simp [Ideal.ofBits, Ideal.ieee]; norm_num
    rw [← EReal.coe_mul]; norm_num; try rfl
  by_cases h : Spec.ex c = e
  · rw [if_pos h, if_pos h]; exact h2
  · rw [if_neg h, if_neg h]; exact Ideal.ofBits_zero_f32

/-- The row numbers of the 8 by 64 selector. -/
abbrev rowIota : IVec S8x64 32 := iota .tc S8x64 32 [0] iota_S8x64_d0_w32
/-- The column numbers of the 8 by 64 selector. -/
abbrev colIota : IVec S8x64 32 := iota .tc S8x64 32 [1] iota_S8x64_d1_w32

/-- The gate projection's rank values, each times its expert's gate. -/
theorem pay13_apply (v13 : FVec Ideal S512x64 .f32) (v23 : FVec Ideal S512x8 .f32) (y : Fin 512) (c : Fin 64) :
    k0_pay13 v13 v23 rowIota colIota 8#32 k0_pay11 k0_pay12 (Scalar.extui (Scalar.cmpi .sgt 8#32 0#32)) (Scalar.cmpi .slt 8#32 0#32) (ix2 y c)
      = v13 (ix2 y c) * ∑ e : Fin 8, v23 (ix2 y e) * Spec.sel e c :=
  spread_apply v13 v23 _ (by decide +kernel) y c

/-- The up projection's rank values, each times its expert's gate. -/
theorem pay18_apply (v57 : FVec Ideal S512x64 .f32) (v67 : FVec Ideal S512x8 .f32) (y : Fin 512) (c : Fin 64) :
    k0_pay18 v57 v67 rowIota colIota 8#32 k0_pay16 k0_pay17 (ix2 y c)
      = v57 (ix2 y c) * ∑ e : Fin 8, v67 (ix2 y e) * Spec.sel e c :=
  spread_apply v57 v67 _ (by decide +kernel) y c

/-- The stored entry: the down product and the down projection's experts. -/
theorem pay1_apply (v142 : FVec Ideal S512x1024 .f32) (v147 : FVec Ideal S512x64 .f32) (v157 : FVec Ideal S512x8 .f32)
    (v191 : FVec Ideal S64x1024 .bf16) (y : Fin 512) (j : Fin 1024) :
    k0_pay1 v142 v147 v157 rowIota colIota 8#32 k0_pay29 k0_pay30 v191 (ix2 y j)
      = v142 (ix2 y j) + Spec.mixK (fun e => v157 (ix2 y e)) (fun c => v147 (ix2 y c)) (fun c => v191 (ix2 c j)) := by
  refine congrArg (v142 (ix2 y j) + ·) ((mm_apply dot_S512x64_S64x1024_S512x1024_1_0_0_1_n_n rfl _ _ y j).trans ?_)
  refine Finset.sum_congr rfl fun c _ => ?_
  rw [shapeCast_self]
  exact congrArg (· * v191 (ix2 c j)) (spread_apply v147 v157 _ (by decide +kernel) y c)

/-- A block of hidden entries: the gated unit of two projections, from their parts. -/
theorem glu_apply (a b : FVec Ideal S512x2048 .f32) (p q : FVec Ideal S512x64 .bf16) (gb ub : FVec Ideal S64x2048 .bf16)
    (y : Fin 512) (k : Fin 2048) :
    (mulf (mulf (truncf .bf16 (addf a (matmul dot_S512x64_S64x2048_S512x2048_1_0_0_1_n_n none p (shapeCast S64x2048 gb shapeCasts_S64x2048_S64x2048) (constant S512x2048 .f32 0x00000000#32))) bitsLt_bf16_f32)
        (logistic (truncf .bf16 (addf a (matmul dot_S512x64_S64x2048_S512x2048_1_0_0_1_n_n none p (shapeCast S64x2048 gb shapeCasts_S64x2048_S64x2048) (constant S512x2048 .f32 0x00000000#32))) bitsLt_bf16_f32)))
      (truncf .bf16 (addf b (matmul dot_S512x64_S64x2048_S512x2048_1_0_0_1_n_n none q (shapeCast S64x2048 ub shapeCasts_S64x2048_S64x2048) (constant S512x2048 .f32 0x00000000#32))) bitsLt_bf16_f32)
        : FVec Ideal S512x2048 .bf16) (ix2 y k)
      = Spec.glu (a (ix2 y k) + Spec.dot (fun c => p (ix2 y c)) (fun c => gb (ix2 c k)))
          (b (ix2 y k) + Spec.dot (fun c => q (ix2 y c)) (fun c => ub (ix2 c k))) := by
  have h : ∀ (a : FVec Ideal S512x2048 .f32) (p : FVec Ideal S512x64 .bf16) (gb : FVec Ideal S64x2048 .bf16),
      addf a (matmul dot_S512x64_S64x2048_S512x2048_1_0_0_1_n_n none p (shapeCast S64x2048 gb shapeCasts_S64x2048_S64x2048) (constant S512x2048 .f32 0x00000000#32)) (ix2 y k)
        = a (ix2 y k) + Spec.dot (fun c => p (ix2 y c)) (fun c => gb (ix2 c k)) := fun a p gb => by
    rw [shapeCast_self]
    exact congrArg (a (ix2 y k) + ·) (mm_apply dot_S512x64_S64x2048_S512x2048_1_0_0_1_n_n rfl p gb y k)
  have h1 := h a p gb
  have h2 := h b q ub
  show (_ * Ideal.logistic _) * _ = _
  unfold Spec.glu
  exact congr (congrArg HMul.hMul (congrArg (fun z : EReal => z * Ideal.logistic z) h1)) h2

/-- The first half of the hidden columns. -/
theorem pay22_apply (v10 v12 : FVec Ideal S512x2048 .f32) (v56 : FVec Ideal S512x64 .bf16) (v57 : FVec Ideal S512x64 .f32)
    (v67 : FVec Ideal S512x8 .f32) (v103 v107 : FVec Ideal S64x2048 .bf16) (y : Fin 512) (k : Fin 2048) :
    k0_pay22 v10 v12 v56 v57 v67 rowIota colIota 8#32 k0_pay16 k0_pay17 v103 v107 (ix2 y k)
      = Spec.glu (v10 (ix2 y k) + Spec.dot (fun c => v56 (ix2 y c)) (fun c => v103 (ix2 c k)))
          (v12 (ix2 y k) + Spec.dot (fun c => v57 (ix2 y c) * ∑ e : Fin 8, v67 (ix2 y e) * Spec.sel e c) (fun c => v107 (ix2 c k))) := by
  refine (glu_apply v10 v12 v56 _ v103 v107 y k).trans ?_
  rw [show (fun c => k0_pay18 v57 v67 rowIota colIota 8#32 k0_pay16 k0_pay17 (ix2 y c)) = _ from funext fun c => pay18_apply v57 v67 y c]

/-- The second half of the hidden columns. -/
theorem pay24_apply (v56 v100 : FVec Ideal S512x64 .bf16) (v112 v114 : FVec Ideal S512x2048 .f32) (v127 v131 : FVec Ideal S64x2048 .bf16)
    (y : Fin 512) (k : Fin 2048) :
    k0_pay24 v56 v100 v112 v114 v127 v131 (ix2 y k)
      = Spec.glu (v112 (ix2 y k) + Spec.dot (fun c => v56 (ix2 y c)) (fun c => v127 (ix2 c k)))
          (v114 (ix2 y k) + Spec.dot (fun c => v100 (ix2 y c)) (fun c => v131 (ix2 c k))) :=
  glu_apply v112 v114 v56 v100 v127 v131 y k

/-- The low and the high half of the hidden coordinates. -/
abbrev lo (k : Fin 2048) : Fin 4096 := ⟨k.val, by omega⟩
/-- A place in the second half of the hidden axis. -/
abbrev hi (k : Fin 2048) : Fin 4096 := ⟨2048 + k.val, by omega⟩

/-- An inner product over the hidden coordinates, accumulated over the two halves from zero. -/
theorem dot_halves (x w : Fin 4096 → EReal) :
    (0 + Spec.dot (fun k => x (lo k)) (fun k => w (lo k))) + Spec.dot (fun k => x (hi k)) (fun k => w (hi k)) = Spec.dot x w := by
  rw [zero_add]
  exact (Fin.sum_univ_add (a := 2048) (b := 2048) fun k : Fin (2048 + 2048) => x k * w k).symm

/-- The hidden row of one x row, as the kernel associates it. -/
def hidK (x : Fin 1024 → EReal) (guc : S1024x144.Idx → EReal) (gbc ubc : S64x4096.Idx → EReal) (wg wu : S1024x4096.Idx → EReal)
    (i : Fin 4096) : EReal :=
  Spec.glu
    (Spec.projK x (fun k => wg (ix2 k i)) (fun e k => guc (ix2 k (⟨e.val, by omega⟩ : Fin 144)))
      (fun c k => guc (ix2 k (⟨16 + c.val, by omega⟩ : Fin 144))) (fun c => gbc (ix2 c i)))
    (Spec.projK x (fun k => wu (ix2 k i)) (fun e k => guc (ix2 k (⟨8 + e.val, by omega⟩ : Fin 144)))
      (fun c k => guc (ix2 k (⟨80 + c.val, by omega⟩ : Fin 144))) (fun c => ubc (ix2 c i)))

end Cert.Proof.KernelIdealRing
-- ==== Proof.Out.lean ====
module

public import proofs.«01_k».proof.Proof.Pay

/-!
The block a grid point stores, read at one entry: the pieces of the kernel's body put together.
-/

@[expose] public section

noncomputable section

namespace Cert.Proof.KernelIdealRing

open Cert.KernelIdeal Cert.KernelIdeal.Gen
open Idealize.ShloMosaic Idealize.ShloMosaic.ValueIdx
open Cert.Proof
open scoped BigOperators

section Parts
variable (v3 : FVec Ideal S512x1024 .f32) (v6 : FVec Ideal S1024x144 .bf16) (y : Fin 512)

/-- The stacked product at an entry. -/
theorem pay6_apply (q : Fin 144) : k0_pay6 (F := Ideal) v3 v6 (ix2 y q) = Spec.dot (fun k => v3 (ix2 y k)) (fun k => v6 (ix2 k q)) := by
  refine (mm_apply dot_S512x1024_S1024x144_S512x144_1_0_0_1_n_n rfl _ _ y q).trans ?_
  rw [shapeCast_self]
  show Spec.dot (fun k => shapeCast S512x1024 v3 shapeCasts_S512x1024_S512x1024 (ix2 y k)) _ = _
  rw [shapeCast_self]

/-- A product of the x block with 2048 weight columns at an entry. -/
theorem wide_apply (w : FVec Ideal S1024x2048 .bf16) (k : Fin 2048) :
    matmul dot_S512x1024_S1024x2048_S512x2048_1_0_0_1_n_n none (k0_pay5 v3) w (constant S512x2048 .f32 0x00000000#32) (ix2 y k)
      = Spec.dot (fun q => v3 (ix2 y q)) (fun q => w (ix2 q k)) := by
  refine (mm_apply dot_S512x1024_S1024x2048_S512x2048_1_0_0_1_n_n rfl _ _ y k).trans ?_
  show Spec.dot (fun k => shapeCast S512x1024 v3 shapeCasts_S512x1024_S512x1024 (ix2 y k)) _ = _
  rw [shapeCast_self]

/-- The gate projection's rank values: the row against columns 16 to 79 of the stack. -/
theorem pay9_apply (c : Fin 64) : k0_pay9 (F := Ideal) v3 v6 (ix2 y c)
    = Spec.dot (fun k => v3 (ix2 y k)) (fun k => v6 (ix2 k (⟨16 + c.val, by omega⟩ : Fin 144))) :=
  (slice2_axis1_apply 16 _ slices_S512x144_o0_16_S512x64 y c ⟨16 + c.val, by omega⟩ rfl).trans (pay6_apply v3 v6 y _)

/-- The up projection's rank values: the row against columns 80 to 143 of the stack. -/
theorem pay14_apply (c : Fin 64) : k0_pay14 (F := Ideal) (k0_pay6 v3 v6) (ix2 y c)
    = Spec.dot (fun k => v3 (ix2 y k)) (fun k => v6 (ix2 k (⟨80 + c.val, by omega⟩ : Fin 144))) :=
  (slice2_axis1_apply 80 _ slices_S512x144_o0_80_S512x64 y c ⟨80 + c.val, by omega⟩ rfl).trans (pay6_apply v3 v6 y _)

/-- The gate projection's gates: the softmax of the row against columns 0 to 7. -/
theorem pay10_apply (e : Fin 8) : k0_pay10 (F := Ideal) v3 v6 (ix2 y e)
    = Spec.gate (fun e => Spec.dot (fun k => v3 (ix2 y k)) (fun k => v6 (ix2 k (⟨e.val, by omega⟩ : Fin 144)))) e := by
  refine (softmax_apply _ y e).trans (congrArg (Spec.gate · e) (funext fun q => ?_))
  exact (slice2_axis1_apply 0 _ slices_S512x144_o0_0_S512x8 y q ⟨q.val, by omega⟩ (Nat.zero_add _).symm).trans (pay6_apply v3 v6 y _)

/-- The up projection's gates: the softmax of the row against columns 8 to 15. -/
theorem pay15_apply (e : Fin 8) : k0_pay15 (F := Ideal) (k0_pay6 v3 v6) (ix2 y e)
    = Spec.gate (fun e => Spec.dot (fun k => v3 (ix2 y k)) (fun k => v6 (ix2 k (⟨8 + e.val, by omega⟩ : Fin 144)))) e := by
  refine (softmax_apply _ y e).trans (congrArg (Spec.gate · e) (funext fun q => ?_))
  exact (slice2_axis1_apply 8 _ slices_S512x144_o0_8_S512x8 y q ⟨8 + q.val, by omega⟩ rfl).trans (pay6_apply v3 v6 y _)

end Parts

section Down
variable (v56 v100 : FVec Ideal S512x64 .bf16) (v112 v114 : FVec Ideal S512x2048 .f32) (v119 : FVec Ideal S512x2048 .bf16)
  (v122 : FVec Ideal S512x1024 .f32) (v123 v143 : FVec Ideal S2048x72 .bf16) (v127 v131 : FVec Ideal S64x2048 .bf16)
  (v140 : FVec Ideal S2048x1024 .bf16) (y : Fin 512)

/-- The second half's share of the down product, added to what is there. -/
theorem pay25_apply (j : Fin 1024) : k0_pay25 v56 v100 v112 v114 v122 v127 v131 v140 (ix2 y j)
    = v122 (ix2 y j) + Spec.dot (fun k => k0_pay24 v56 v100 v112 v114 v127 v131 (ix2 y k)) (fun k => v140 (ix2 k j)) :=
  congrArg (v122 (ix2 y j) + ·) (mm_apply dot_S512x2048_S2048x1024_S512x1024_1_0_0_1_n_n rfl _ _ y j)

/-- Both halves' products with the down projection's stack, added up. -/
theorem pay26_apply (q : Fin 72) : k0_pay26 v56 v100 (k0_pay19 (F := Ideal)) v112 v114 v119 v123 v127 v131 v143 (ix2 y q)
    = (0 + Spec.dot (fun k => v119 (ix2 y k)) (fun k => v123 (ix2 k q)))
      + Spec.dot (fun k => k0_pay24 v56 v100 v112 v114 v127 v131 (ix2 y k)) (fun k => v143 (ix2 k q)) := by
  refine congr (congrArg HAdd.hAdd (congr (congrArg HAdd.hAdd Ideal.ofBits_zero_f32) ?_)) ?_
  · exact (mm_apply dot_S512x2048_S2048x72_S512x72_1_0_0_1_n_n rfl _ _ y q).trans (by rw [shapeCast_self])
  · exact (mm_apply dot_S512x2048_S2048x72_S512x72_1_0_0_1_n_n rfl _ _ y q).trans (by rw [shapeCast_self])

/-- The down projection's rank values are columns 8 to 71 of that sum. -/
theorem pay27_apply (c : Fin 64) : k0_pay27 v56 v100 (k0_pay19 (F := Ideal)) v112 v114 v119 v123 v127 v131 v143 (ix2 y c)
    = k0_pay26 v56 v100 (k0_pay19 (F := Ideal)) v112 v114 v119 v123 v127 v131 v143 (ix2 y (⟨8 + c.val, by omega⟩ : Fin 72)) :=
  slice2_axis1_apply 8 (k0_pay26 v56 v100 (k0_pay19 (F := Ideal)) v112 v114 v119 v123 v127 v131 v143) slices_S512x72_o0_8_S512x64 y c ⟨8 + c.val, by omega⟩ rfl

/-- The down projection's gates are the softmax of columns 0 to 7 of that sum. -/
theorem pay28_apply (e : Fin 8) : k0_pay28 v56 v100 (k0_pay19 (F := Ideal)) v112 v114 v119 v123 v127 v131 v143 (ix2 y e)
    = Spec.gate (fun e => k0_pay26 v56 v100 (k0_pay19 (F := Ideal)) v112 v114 v119 v123 v127 v131 v143 (ix2 y (⟨e.val, by omega⟩ : Fin 72))) e := by
  refine (softmax_apply _ y e).trans (congrArg (Spec.gate · e) (funext fun q => ?_))
  exact slice2_axis1_apply 0 (k0_pay26 v56 v100 (k0_pay19 (F := Ideal)) v112 v114 v119 v123 v127 v131 v143) slices_S512x72_o0_0_S512x8 y q ⟨q.val, by omega⟩ (Nat.zero_add _).symm

end Down

/-- The first half's share of the down product. -/
theorem pay23_apply (v10 v12 : FVec Ideal S512x2048 .f32) (v56 : FVec Ideal S512x64 .bf16) (v57 : FVec Ideal S512x64 .f32)
    (v67 : FVec Ideal S512x8 .f32) (v103 v107 : FVec Ideal S64x2048 .bf16) (v120 : FVec Ideal S2048x1024 .bf16) (y : Fin 512) (j : Fin 1024) :
    k0_pay23 v10 v12 v56 v57 v67 rowIota colIota 8#32 k0_pay16 k0_pay17 v103 v107 v120 (ix2 y j)
      = 0 + Spec.dot (fun k => k0_pay22 v10 v12 v56 v57 v67 rowIota colIota 8#32 k0_pay16 k0_pay17 v103 v107 (ix2 y k)) (fun k => v120 (ix2 k j)) :=
  congr (congrArg HAdd.hAdd Ideal.ofBits_zero_f32) (mm_apply dot_S512x2048_S2048x1024_S512x1024_1_0_0_1_n_n rfl _ _ y j)

/-- A hidden entry from a row of x, the stacked columns and the entry's own weight columns. -/
def halfK (x : Fin 1024 → EReal) (guc : Fin 1024 → Fin 144 → EReal) (wg wu : Fin 1024 → EReal) (gb ub : Fin 64 → EReal) : EReal :=
  Spec.glu
    (Spec.projK x wg (fun e k => guc k (⟨e.val, by omega⟩ : Fin 144)) (fun c k => guc k (⟨16 + c.val, by omega⟩ : Fin 144)) gb)
    (Spec.projK x wu (fun e k => guc k (⟨8 + e.val, by omega⟩ : Fin 144)) (fun c k => guc k (⟨80 + c.val, by omega⟩ : Fin 144)) ub)

/-- Equal operands give an equal hidden entry. -/
theorem halfK_ext {x x' : Fin 1024 → EReal} {guc guc' : Fin 1024 → Fin 144 → EReal} {wg wg' wu wu' : Fin 1024 → EReal} {gb gb' ub ub' : Fin 64 → EReal}
    (hx : ∀ q, x q = x' q) (hc : ∀ q c, guc q c = guc' q c) (hg : ∀ q, wg q = wg' q) (hu : ∀ q, wu q = wu' q)
    (hgb : ∀ c, gb c = gb' c) (hub : ∀ c, ub c = ub' c) : halfK x guc wg wu gb ub = halfK x' guc' wg' wu' gb' ub' := by
  obtain rfl := funext hx; obtain rfl := funext fun q => funext (hc q); obtain rfl := funext hg; obtain rfl := funext hu
  obtain rfl := funext hgb; obtain rfl := funext hub; rfl

/-- The low half of a row's hidden entries, from the block's own products. -/
theorem low_apply (v3 : FVec Ideal S512x1024 .f32) (v6 : FVec Ideal S1024x144 .bf16) (v9 v11 : FVec Ideal S1024x2048 .bf16)
    (v103 v107 : FVec Ideal S64x2048 .bf16) (y : Fin 512) (k : Fin 2048) :
    k0_pay22 (F := Ideal) (k0_pay7 v3 v9) (k0_pay8 v3 v11)
        (k0_pay13 (k0_pay9 v3 v6) (k0_pay10 v3 v6) rowIota colIota 8#32 k0_pay11 k0_pay12 (Scalar.extui (Scalar.cmpi .sgt 8#32 0#32)) (Scalar.cmpi .slt 8#32 0#32))
        (k0_pay14 (k0_pay6 v3 v6)) (k0_pay15 (k0_pay6 v3 v6)) rowIota colIota 8#32 k0_pay16 k0_pay17 v103 v107 (ix2 y k)
      = halfK (fun q => v3 (ix2 y q)) (fun q c => v6 (ix2 q c)) (fun q => v9 (ix2 q k)) (fun q => v11 (ix2 q k)) (fun c => v103 (ix2 c k)) (fun c => v107 (ix2 c k)) := by
  refine (pay22_apply _ _ _ _ _ v103 v107 y k).trans ?_
  simp only [pay13_apply, pay9_apply, pay10_apply, pay14_apply, pay15_apply]
  rw [show k0_pay7 (F := Ideal) v3 v9 (ix2 y k) = _ from wide_apply v3 y v9 k, show k0_pay8 (F := Ideal) v3 v11 (ix2 y k) = _ from wide_apply v3 y v11 k]
  rfl

/-- The high half of a row's hidden entries, from the block's own products. -/
theorem high_apply (v3 : FVec Ideal S512x1024 .f32) (v6 : FVec Ideal S1024x144 .bf16) (v9 v11 : FVec Ideal S1024x2048 .bf16)
    (v103 v107 : FVec Ideal S64x2048 .bf16) (y : Fin 512) (k : Fin 2048) :
    k0_pay24 (F := Ideal) (k0_pay13 (k0_pay9 v3 v6) (k0_pay10 v3 v6) rowIota colIota 8#32 k0_pay11 k0_pay12 (Scalar.extui (Scalar.cmpi .sgt 8#32 0#32)) (Scalar.cmpi .slt 8#32 0#32))
        (k0_pay18 (k0_pay14 (k0_pay6 v3 v6)) (k0_pay15 (k0_pay6 v3 v6)) rowIota colIota 8#32 k0_pay16 k0_pay17)
        (k0_pay20 (k0_pay5 v3) v9) (k0_pay21 (k0_pay5 v3) v11) v103 v107 (ix2 y k)
      = halfK (fun q => v3 (ix2 y q)) (fun q c => v6 (ix2 q c)) (fun q => v9 (ix2 q k)) (fun q => v11 (ix2 q k)) (fun c => v103 (ix2 c k)) (fun c => v107 (ix2 c k)) := by
  refine (pay24_apply _ _ _ _ v103 v107 y k).trans ?_
  simp only [pay13_apply, pay18_apply, pay9_apply, pay10_apply, pay14_apply, pay15_apply]
  rw [show k0_pay20 (F := Ideal) (k0_pay5 v3) v9 (ix2 y k) = _ from wide_apply v3 y v9 k, show k0_pay21 (F := Ideal) (k0_pay5 v3) v11 (ix2 y k) = _ from wide_apply v3 y v11 k]
  rfl

/-- The down projection of a row whose hidden entries are `h`, over the two halves. -/
theorem down_apply (v56 v100 : FVec Ideal S512x64 .bf16) (v112 v114 : FVec Ideal S512x2048 .f32) (v119 : FVec Ideal S512x2048 .bf16)
    (v122 : FVec Ideal S512x1024 .f32) (v123 v143 : FVec Ideal S2048x72 .bf16) (v127 v131 : FVec Ideal S64x2048 .bf16)
    (v120 v140 : FVec Ideal S2048x1024 .bf16) (v191 : FVec Ideal S64x1024 .bf16) (y : Fin 512) (j : Fin 1024)
    (h : Fin 4096 → EReal) (wd : S4096x1024.Idx → EReal) (dc : S4096x72.Idx → EReal) (dbc : S64x1024.Idx → EReal)
    (hlo : ∀ k, v119 (ix2 y k) = h (lo k)) (hhi : ∀ k, k0_pay24 v56 v100 v112 v114 v127 v131 (ix2 y k) = h (hi k))
    (e122 : v122 (ix2 y j) = 0 + Spec.dot (fun k => v119 (ix2 y k)) (fun k => v120 (ix2 k j)))
    (dlo : ∀ k, v120 (ix2 k j) = wd (ix2 (lo k) j)) (dhi : ∀ k, v140 (ix2 k j) = wd (ix2 (hi k) j))
    (rlo : ∀ k q, v123 (ix2 k q) = dc (ix2 (lo k) q)) (rhi : ∀ k q, v143 (ix2 k q) = dc (ix2 (hi k) q))
    (cd : ∀ c, v191 (ix2 c j) = dbc (ix2 c j)) :
    k0_pay1 (k0_pay25 v56 v100 v112 v114 v122 v127 v131 v140)
        (k0_pay27 v56 v100 (k0_pay19 (F := Ideal)) v112 v114 v119 v123 v127 v131 v143)
        (k0_pay28 v56 v100 (k0_pay19 (F := Ideal)) v112 v114 v119 v123 v127 v131 v143) rowIota colIota 8#32 k0_pay29 k0_pay30 v191 (ix2 y j)
      = Spec.projK h (fun i => wd (ix2 i j)) (fun e i => dc (ix2 i (⟨e.val, by omega⟩ : Fin 72)))
          (fun c i => dc (ix2 i (⟨8 + c.val, by omega⟩ : Fin 72))) (fun c => dbc (ix2 c j)) := by
  have e26 : ∀ q : Fin 72, k0_pay26 v56 v100 (k0_pay19 (F := Ideal)) v112 v114 v119 v123 v127 v131 v143 (ix2 y q)
      = Spec.dot h (fun i => dc (ix2 i q)) := fun q => by
    refine (pay26_apply v56 v100 v112 v114 v119 v123 v143 v127 v131 y q).trans ?_
    simp only [hlo, hhi, rlo, rhi]
    exact dot_halves _ (fun i => dc (ix2 i q))
  have e25 : k0_pay25 v56 v100 v112 v114 v122 v127 v131 v140 (ix2 y j) = Spec.dot h (fun i => wd (ix2 i j)) := by
    refine (pay25_apply v56 v100 v112 v114 v122 v127 v131 v140 y j).trans ?_
    rw [e122]
    simp only [hlo, hhi, dlo, dhi]
    exact dot_halves _ (fun i => wd (ix2 i j))
  refine (pay1_apply _ _ _ v191 y j).trans ?_
  rw [e25]
  refine congrArg (Spec.dot h (fun i => wd (ix2 i j)) + ·) ?_
  simp only [pay27_apply, pay28_apply, e26, cd]

/-- The gate branch's weighted narrow block, of the loaded x block and the stacked columns. -/
def gateF (v3 : FVec Ideal S512x1024 .f32) (v6 : FVec Ideal S1024x144 .bf16) : FVec Ideal S512x64 .bf16 :=
  k0_pay13 (k0_pay9 v3 v6) (k0_pay10 v3 v6) rowIota colIota 8#32 k0_pay11 k0_pay12 (Scalar.extui (Scalar.cmpi .sgt 8#32 0#32)) (Scalar.cmpi .slt 8#32 0#32)

/-- The up branch's weighted narrow block, of the loaded x block and the stacked columns. -/
def upF (v3 : FVec Ideal S512x1024 .f32) (v6 : FVec Ideal S1024x144 .bf16) : FVec Ideal S512x64 .bf16 :=
  k0_pay18 (k0_pay14 (k0_pay6 v3 v6)) (k0_pay15 (k0_pay6 v3 v6)) rowIota colIota 8#32 k0_pay16 k0_pay17

section Stored
variable (v3 : FVec Ideal S512x1024 .f32) (v6 : FVec Ideal S1024x144 .bf16) (v9 v11 : FVec Ideal S1024x2048 .bf16)
  (v103 v107 : FVec Ideal S64x2048 .bf16) (v111 v113 : FVec Ideal S1024x2048 .bf16) (v120 : FVec Ideal S2048x1024 .bf16)
  (v123 : FVec Ideal S2048x72 .bf16) (v127 v131 : FVec Ideal S64x2048 .bf16) (v140 : FVec Ideal S2048x1024 .bf16)
  (v143 : FVec Ideal S2048x72 .bf16) (v191 : FVec Ideal S64x1024 .bf16)

/-- The low hidden half of the block, of what the body loaded. -/
def lowF : FVec Ideal S512x2048 .bf16 :=
  k0_pay22 (k0_pay7 v3 v9) (k0_pay8 v3 v11) (gateF v3 v6) (k0_pay14 (k0_pay6 v3 v6)) (k0_pay15 (k0_pay6 v3 v6)) rowIota colIota 8#32 k0_pay16 k0_pay17 v103 v107

/-- The low half's share of the wide down product, of what the body loaded. -/
def partF : FVec Ideal S512x1024 .f32 :=
  k0_pay23 (k0_pay7 v3 v9) (k0_pay8 v3 v11) (gateF v3 v6) (k0_pay14 (k0_pay6 v3 v6)) (k0_pay15 (k0_pay6 v3 v6)) rowIota colIota 8#32 k0_pay16 k0_pay17 v103 v107 v120

/-- The block the body stores, of what it loaded. -/
def storedF : FVec Ideal S512x1024 .f32 :=
  k0_pay1 (k0_pay25 (gateF v3 v6) (upF v3 v6) (k0_pay20 (k0_pay5 v3) v111) (k0_pay21 (k0_pay5 v3) v113) (partF v3 v6 v9 v11 v103 v107 v120) v127 v131 v140)
    (k0_pay27 (gateF v3 v6) (upF v3 v6) (k0_pay19 (F := Ideal)) (k0_pay20 (k0_pay5 v3) v111) (k0_pay21 (k0_pay5 v3) v113) (lowF v3 v6 v9 v11 v103 v107) v123 v127 v131 v143)
    (k0_pay28 (gateF v3 v6) (upF v3 v6) (k0_pay19 (F := Ideal)) (k0_pay20 (k0_pay5 v3) v111) (k0_pay21 (k0_pay5 v3) v113) (lowF v3 v6 v9 v11 v103 v107) v123 v127 v131 v143)
    rowIota colIota 8#32 k0_pay29 k0_pay30 v191

/-- The stored block at an entry, of loads that read the whole arrays' two halves. -/
theorem storedF_apply (x : S512x1024.Idx → EReal) (guc : S1024x144.Idx → EReal) (dc : S4096x72.Idx → EReal)
    (gbc ubc : S64x4096.Idx → EReal) (dbc : S64x1024.Idx → EReal) (wg wu : S1024x4096.Idx → EReal) (wd : S4096x1024.Idx → EReal)
    (y : Fin 512) (j : Fin 1024)
    (cx : ∀ a b, v3 (ix2 a b) = x (ix2 a b)) (cg : ∀ a b, v6 (ix2 a b) = guc (ix2 a b))
    (glo : ∀ a b, v9 (ix2 a b) = wg (ix2 a (lo b))) (ulo : ∀ a b, v11 (ix2 a b) = wu (ix2 a (lo b)))
    (gblo : ∀ a b, v103 (ix2 a b) = gbc (ix2 a (lo b))) (ublo : ∀ a b, v107 (ix2 a b) = ubc (ix2 a (lo b)))
    (ghi : ∀ a b, v111 (ix2 a b) = wg (ix2 a (hi b))) (uhi : ∀ a b, v113 (ix2 a b) = wu (ix2 a (hi b)))
    (dlo : ∀ a b, v120 (ix2 a b) = wd (ix2 (lo a) b)) (rlo : ∀ a b, v123 (ix2 a b) = dc (ix2 (lo a) b))
    (gbhi : ∀ a b, v127 (ix2 a b) = gbc (ix2 a (hi b))) (ubhi : ∀ a b, v131 (ix2 a b) = ubc (ix2 a (hi b)))
    (dhi : ∀ a b, v140 (ix2 a b) = wd (ix2 (hi a) b)) (rhi : ∀ a b, v143 (ix2 a b) = dc (ix2 (hi a) b))
    (cd : ∀ a b, v191 (ix2 a b) = dbc (ix2 a b)) :
    storedF v3 v6 v9 v11 v103 v107 v111 v113 v120 v123 v127 v131 v140 v143 v191 (ix2 y j)
      = Spec.projK (hidK (fun k => x (ix2 y k)) guc gbc ubc wg wu) (fun i => wd (ix2 i j))
          (fun e i => dc (ix2 i (⟨e.val, by omega⟩ : Fin 72))) (fun c i => dc (ix2 i (⟨8 + c.val, by omega⟩ : Fin 72)))
          (fun c => dbc (ix2 c j)) := by
  have hlo : ∀ k, lowF v3 v6 v9 v11 v103 v107 (ix2 y k) = hidK (fun k => x (ix2 y k)) guc gbc ubc wg wu (lo k) := fun k => by
    refine (low_apply v3 v6 v9 v11 v103 v107 y k).trans ?_
    exact halfK_ext (x' := fun q => x (ix2 y q)) (guc' := fun q c => guc (ix2 q c)) (wg' := fun q => wg (ix2 q (lo k))) (wu' := fun q => wu (ix2 q (lo k)))
      (gb' := fun c => gbc (ix2 c (lo k))) (ub' := fun c => ubc (ix2 c (lo k)))
      (cx y) cg (fun q => glo q k) (fun q => ulo q k) (fun c => gblo c k) (fun c => ublo c k)
  have hhi : ∀ k, k0_pay24 (gateF v3 v6) (upF v3 v6) (k0_pay20 (k0_pay5 v3) v111) (k0_pay21 (k0_pay5 v3) v113) v127 v131 (ix2 y k)
      = hidK (fun k => x (ix2 y k)) guc gbc ubc wg wu (hi k) := fun k => by
    refine (high_apply v3 v6 v111 v113 v127 v131 y k).trans ?_
    exact halfK_ext (x' := fun q => x (ix2 y q)) (guc' := fun q c => guc (ix2 q c)) (wg' := fun q => wg (ix2 q (hi k))) (wu' := fun q => wu (ix2 q (hi k)))
      (gb' := fun c => gbc (ix2 c (hi k))) (ub' := fun c => ubc (ix2 c (hi k)))
      (cx y) cg (fun q => ghi q k) (fun q => uhi q k) (fun c => gbhi c k) (fun c => ubhi c k)
  have hp : partF v3 v6 v9 v11 v103 v107 v120 (ix2 y j) = 0 + Spec.dot (fun k => lowF v3 v6 v9 v11 v103 v107 (ix2 y k)) (fun k => v120 (ix2 k j)) :=
    pay23_apply (k0_pay7 v3 v9) (k0_pay8 v3 v11) (gateF v3 v6) (k0_pay14 (k0_pay6 v3 v6)) (k0_pay15 (k0_pay6 v3 v6)) v103 v107 v120 y j
  unfold storedF
  generalize hidK (fun k => x (ix2 y k)) guc gbc ubc wg wu = h at hlo hhi ⊢
  exact down_apply (gateF v3 v6) (upF v3 v6) (k0_pay20 (k0_pay5 v3) v111) (k0_pay21 (k0_pay5 v3) v113) (lowF v3 v6 v9 v11 v103 v107)
    (partF v3 v6 v9 v11 v103 v107 v120) v123 v143 v127 v131 v120 v140 v191 y j
    h wd dc dbc hlo hhi hp (fun k => dlo k j) (fun k => dhi k j) rlo rhi (fun c => cd c j)

end Stored

section Loaded
variable (x : S512x1024.Idx → EReal) (guc : S1024x144.Idx → EReal) (dc : S4096x72.Idx → EReal)
    (gbc ubc : S64x4096.Idx → EReal) (dbc : S64x1024.Idx → EReal) (wg wu : S1024x4096.Idx → EReal) (wd : S4096x1024.Idx → EReal)

/-- The stored block is that function of the body's loads. -/
theorem outF_eq : outF (F := Ideal) x guc dc gbc ubc dbc wg wu wd = storedF
    (cut (Rect.unit (s := S512x1024) ![0, 0] S512x1024.size inb_S512x1024_S512x1024_0_0) x)
    (cut (Rect.unit (s := S1024x144) ![0, 0] S1024x144.size inb_S1024x144_S1024x144_0_0) guc)
    (cut (Rect.unit (s := S1024x4096) ![0, 0] S1024x2048.size inb_S1024x4096_S1024x2048_0_0) wg)
    (cut (Rect.unit (s := S1024x4096) ![0, 0] S1024x2048.size inb_S1024x4096_S1024x2048_0_0) wu)
    (cut (Rect.unit (s := S64x4096) ![0, 0] S64x2048.size inb_S64x4096_S64x2048_0_0) gbc)
    (cut (Rect.unit (s := S64x4096) ![0, 0] S64x2048.size inb_S64x4096_S64x2048_0_0) ubc)
    (cut (Rect.unit (s := S1024x4096) ![0, 2048] S1024x2048.size inb_S1024x4096_S1024x2048_0_2048) wg)
    (cut (Rect.unit (s := S1024x4096) ![0, 2048] S1024x2048.size inb_S1024x4096_S1024x2048_0_2048) wu)
    (cut (Rect.unit (s := S4096x1024) ![0, 0] S2048x1024.size inb_S4096x1024_S2048x1024_0_0) wd)
    (cut (Rect.unit (s := S4096x72) ![0, 0] S2048x72.size inb_S4096x72_S2048x72_0_0) dc)
    (cut (Rect.unit (s := S64x4096) ![0, 2048] S64x2048.size inb_S64x4096_S64x2048_0_2048) gbc)
    (cut (Rect.unit (s := S64x4096) ![0, 2048] S64x2048.size inb_S64x4096_S64x2048_0_2048) ubc)
    (cut (Rect.unit (s := S4096x1024) ![2048, 0] S2048x1024.size inb_S4096x1024_S2048x1024_2048_0) wd)
    (cut (Rect.unit (s := S4096x72) ![2048, 0] S2048x72.size inb_S4096x72_S2048x72_2048_0) dc)
    (cut (Rect.unit (s := S64x1024) ![0, 0] S64x1024.size inb_S64x1024_S64x1024_0_0) dbc) := rfl

/-- The stored block at an entry: a projection of the row's hidden entries. -/
theorem outF_apply (y : Fin 512) (j : Fin 1024) :
    outF (F := Ideal) x guc dc gbc ubc dbc wg wu wd (ix2 y j)
      = Spec.projK (hidK (fun k => x (ix2 y k)) guc gbc ubc wg wu) (fun i => wd (ix2 i j))
          (fun e i => dc (ix2 i (⟨e.val, by omega⟩ : Fin 72))) (fun c i => dc (ix2 i (⟨8 + c.val, by omega⟩ : Fin 72)))
          (fun c => dbc (ix2 c j)) := by
  rw [outF_eq]
  have z : ∀ n : ℕ, n = 0 + n := fun n => (Nat.zero_add n).symm
  exact storedF_apply _ _ _ _ _ _ _ _ _ _ _ _ _ _ _ x guc dc gbc ubc dbc wg wu wd y j
    (fun a b => cut_apply 0 0 inb_S512x1024_S512x1024_0_0 x a b a b (z _) (z _))
    (fun a b => cut_apply 0 0 inb_S1024x144_S1024x144_0_0 guc a b a b (z _) (z _))
    (fun a b => cut_apply 0 0 inb_S1024x4096_S1024x2048_0_0 wg a b a (lo b) (z _) (z _))
    (fun a b => cut_apply 0 0 inb_S1024x4096_S1024x2048_0_0 wu a b a (lo b) (z _) (z _))
    (fun a b => cut_apply 0 0 inb_S64x4096_S64x2048_0_0 gbc a b a (lo b) (z _) (z _))
    (fun a b => cut_apply 0 0 inb_S64x4096_S64x2048_0_0 ubc a b a (lo b) (z _) (z _))
    (fun a b => cut_apply 0 2048 inb_S1024x4096_S1024x2048_0_2048 wg a b a (hi b) (z _) rfl)
    (fun a b => cut_apply 0 2048 inb_S1024x4096_S1024x2048_0_2048 wu a b a (hi b) (z _) rfl)
    (fun a b => cut_apply 0 0 inb_S4096x1024_S2048x1024_0_0 wd a b (lo a) b (z _) (z _))
    (fun a b => cut_apply 0 0 inb_S4096x72_S2048x72_0_0 dc a b (lo a) b (z _) (z _))
    (fun a b => cut_apply 0 2048 inb_S64x4096_S64x2048_0_2048 gbc a b a (hi b) (z _) rfl)
    (fun a b => cut_apply 0 2048 inb_S64x4096_S64x2048_0_2048 ubc a b a (hi b) (z _) rfl)
    (fun a b => cut_apply 2048 0 inb_S4096x1024_S2048x1024_2048_0 wd a b (hi a) b rfl (z _))
    (fun a b => cut_apply 2048 0 inb_S4096x72_S2048x72_2048_0 dc a b (hi a) b rfl (z _))
    (fun a b => cut_apply 0 0 inb_S64x1024_S64x1024_0_0 dbc a b a b (z _) (z _))

end Loaded

end Cert.Proof.KernelIdealRing
-- ==== Proof.RefRead.lean ====
module

public import proofs.«01_k».proof.Proof.Spec
public import proofs.«01_k».proof.Proof.Gen.ReferenceIdeal.Read
public import Idealize.ShloMosaic.PureOps.Reduce

/-!
The reference's result read at one entry: three projections with mixtures of experts.
-/

@[expose] public section

noncomputable section

namespace Cert.Proof.Ref

open Cert.ReferenceIdeal Cert.ReferenceIdeal.Gen Cert.ReferenceIdeal.Read
open Idealize.ShloMosaic Idealize.ShloMosaic.ValueIdx
open Cert.Proof
open scoped BigOperators

/-- The bits of 2. -/
theorem ofBits_two_f32 : Ideal.ofBits .f32 0x40000000#32 = 2 := by
  simp [Ideal.ofBits, Ideal.ieee]; norm_num
  rw [← EReal.coe_mul]; norm_num; try rfl

/-- The bits of minus infinity. -/
theorem ofBits_bot_f32 : Ideal.ofBits .f32 0xFF800000#32 = ⊥ := by
  simp [Ideal.ofBits, Ideal.ieee]

/-- A function of a two-coordinate index read where the coordinates agree. -/
theorem rd2 {n : Fin 2 → ℕ} {α : Type} {f : ((a : Fin 2) → Fin (n a)) → α} {i j : (a : Fin 2) → Fin (n a)} {v : α} (h : f j = v)
    (h0 : (i 0 : ℕ) = j 0) (h1 : (i 1 : ℕ) = j 1) : f i = v := (congrArg f (Shape.idx_ext₂ h0 h1)).trans h

/-- The host's maximum over the eight columns of a row. -/
theorem rowMax_apply (x : FVec Ideal S4096x8 .f32) (n : Fin 4096) :
    Host.reduce FloatOps.maximumf x (constant S_ .f32 0xFF800000#32) reducesTo_S4096x8_S4096_d1 h_S_ (ix1 n)
      = Spec.top fun e => x (ix2 n e) := by
  refine (Host.reduce_eq_fold_single FloatOps.maximumf x _ reducesTo_S4096x8_S4096_d1 (by decide) h_S_ (ix1 n)).trans ?_
  rw [Spec.top, show (constant S_ .f32 0xFF800000#32 : FVec Ideal S_ .f32) (Shape.Idx.first h_S_) = ⊥ from ofBits_bot_f32]
  refine congrArg (fun f => (Finset.univ : Finset (Fin 8)).fold max ⊥ f) (funext fun k => congrArg x ?_)
  exact Shape.idx_ext₂ rfl rfl

section Half
variable (x0 : FVec Ideal S2x2048x1024 .f32) (x1 : FVec Ideal S1024x4096 .f32) (x4 : FVec Ideal S1024x8 .f32)
  (x5 : FVec Ideal S8x1024x8 .f32) (x6 : FVec Ideal S8x8x4096 .f32)

/-- The batch of a token of the flattened input. -/
def bat (n : Fin 4096) : Fin 2 := ⟨n.val / 2048, by omega⟩
/-- The place in its batch of a token of the flattened input. -/
def tok (n : Fin 4096) : Fin 2048 := ⟨n.val % 2048, by omega⟩

/-- The flattened input at token `n`. -/
theorem v0_at (n : Fin 4096) (k : Fin 1024) : val_main_v0 (F := Ideal) x0 (ix2 n k) = x0 (ix3 (bat n) (tok n) k) := by
  refine (val_main_v0_apply (F := Ideal) x0 _).trans (congrArg x0 (funext fun a => Fin.ext ?_))
  have hn := n.isLt; have hk := k.isLt
  match a with
  | ⟨0, _⟩ => show (n.val * 1024 + k.val) / 2097152 = n.val / 2048; omega
  | ⟨1, _⟩ => show (n.val * 1024 + k.val) / 1024 % 2048 = n.val % 2048; omega
  | ⟨2, _⟩ => show (n.val * 1024 + k.val) % 1024 = k.val; omega

/-- A projection's logits are the token against the router's columns. -/
theorem v2_at (n : Fin 4096) (e : Fin 8) : val_main_v2 (F := Ideal) x0 x4 (ix2 n e)
    = Spec.dot (fun k => x0 (ix3 (bat n) (tok n) k)) (fun k => x4 (ix2 k e)) := by
  refine (val_main_v2_apply x0 x4 _).trans (Finset.sum_congr rfl fun k _ => ?_)
  exact congrArg₂ (fun a b : EReal => a * b) ((rd2 (f := (val_main_v0 (F := Ideal) x0)) (v0_at x0 n k) rfl rfl)) (congrArg x4 (Shape.idx_ext₂ rfl rfl))

/-- A softmax as the host computes it, from its row of logits. -/
theorem v13_at (n : Fin 4096) (e : Fin 8) : val_main_v13 (F := Ideal) x0 x4 (ix2 n e) = Spec.gate (fun e => val_main_v2 (F := Ideal) x0 x4 (ix2 n e)) e := by
  have hmax : val_main_v5 (F := Ideal) x0 x4 (ix1 n) = Spec.top fun e => val_main_v2 (F := Ideal) x0 x4 (ix2 n e) := by
    refine (val_main_v5_apply (F := Ideal) x0 x4 _).trans ?_
    refine (congrArg₂ (fun a b : EReal => max a b) ((val_main_v4_apply (F := Ideal) _).trans ofBits_bot_f32) (rowMax_apply (val_main_v2 (F := Ideal) x0 x4) n)).trans ?_
    exact max_eq_right bot_le
  have hex : ∀ k, val_main_v9 (F := Ideal) x0 x4 (ix2 n k) = Ideal.exp (val_main_v2 (F := Ideal) x0 x4 (ix2 n k) - Spec.top fun e => val_main_v2 (F := Ideal) x0 x4 (ix2 n e)) := fun k => by
    refine (val_main_v9_apply (F := Ideal) x0 x4 _).trans (congrArg Ideal.exp ((val_main_v8_apply (F := Ideal) x0 x4 _).trans (congrArg (val_main_v2 (F := Ideal) x0 x4 (ix2 n k) - ·) ?_)))
    refine ((val_main_v7_apply (F := Ideal) x0 x4 _).trans (val_main_v6_apply (F := Ideal) x0 x4 _)).trans ((congrArg (val_main_v5 (F := Ideal) x0 x4) ?_).trans hmax)
    exact funext fun a => Fin.ext (by match a with | ⟨0, _⟩ => rfl)
  refine (val_main_v13_apply (F := Ideal) x0 x4 _).trans ?_
  refine congrArg₂ Ideal.div ((hex e)) ?_
  refine ((val_main_v12_apply (F := Ideal) x0 x4 _).trans (val_main_v11_apply (F := Ideal) x0 x4 _)).trans ((val_main_v10_apply x0 x4 _).trans ?_)
  refine (congrArg (· + _) Ideal.ofBits_zero_f32).trans ((zero_add _).trans (Finset.sum_congr rfl fun k _ => ?_))
  exact rd2 (f := (val_main_v9 (F := Ideal) x0 x4)) (hex k) rfl rfl

/-- A projection's rank values are the token against each expert's first factor. -/
theorem v15_at (e r : Fin 8) (n : Fin 4096) : val_main_v15 (F := Ideal) x0 x5 (ix3 e n r)
    = Spec.dot (fun k => x0 (ix3 (bat n) (tok n) k)) (fun k => x5 (ix3 e k r)) := by
  refine (val_main_v15_apply (F := Ideal) x0 x5 _).trans ((val_main_v14_apply x0 x5 _).trans (Finset.sum_congr rfl fun k _ => ?_))
  refine (mul_comm _ _).trans (congrArg₂ (fun a b : EReal => a * b) (?_) (congrArg x5 ?_))
  · exact rd2 (f := (val_main_v0 (F := Ideal) x0)) (v0_at x0 n k) rfl rfl
  · exact funext fun a => Fin.ext (by match a with | ⟨0, _⟩ => rfl | ⟨1, _⟩ => rfl | ⟨2, _⟩ => rfl)

/-- A projection's mixture of experts, at a token and a column. -/
theorem v19_at (n i : Fin 4096) : val_main_v19 (F := Ideal) x0 x4 x5 x6 (ix2 n i)
    = Spec.mixR (Spec.gate fun e => val_main_v2 (F := Ideal) x0 x4 (ix2 n e))
        (fun e r => Spec.dot (fun k => x0 (ix3 (bat n) (tok n) k)) (fun k => x5 (ix3 e k r))) (fun e r => x6 (ix3 e r i)) := by
  refine (val_main_v19_apply x0 x4 x5 x6 _).trans (Finset.sum_congr rfl fun e _ => ?_)
  refine congrArg₂ (fun a b : EReal => a * b) ((rd2 (f := (val_main_v13 (F := Ideal) x0 x4)) (v13_at x0 x4 n e) rfl rfl)) ?_
  refine (val_main_v18_apply (F := Ideal) x0 x5 x6 _).trans (congrArg₂ (fun a b : EReal => a * b) (?_) ?_)
  · refine (val_main_v16_apply x0 x5 x6 _).trans (Finset.sum_congr rfl fun r _ => congrArg₂ (fun a b : EReal => a * b) (?_) (congrArg x6 ?_))
    · refine (congrArg (val_main_v15 (F := Ideal) x0 x5) ?_).trans (v15_at x0 x5 e r n)
      exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl)
  · exact (val_main_v17_apply (F := Ideal) _).trans ofBits_two_f32

/-- One gated projection with its experts, at a token and a column. -/
theorem v21_at (n i : Fin 4096) : val_main_v21 (F := Ideal) x0 x1 x4 x5 x6 (ix3 (bat n) (tok n) i)
    = Spec.projR (fun k => x0 (ix3 (bat n) (tok n) k)) (fun k => x1 (ix2 k i)) (fun e k => x4 (ix2 k e))
        (fun e r k => x5 (ix3 e k r)) (fun e r => x6 (ix3 e r i)) := by
  refine (val_main_v21_apply (F := Ideal) x0 x1 x4 x5 x6 _).trans (congrArg₂ (fun a b : EReal => a + b) (?_) ?_)
  · refine (val_main_v1_apply x0 x1 _).trans (Finset.sum_congr rfl fun k _ => congrArg₂ (fun a b : EReal => a * b) ((congrArg x0 ?_)) (congrArg x1 ?_))
    · exact funext fun a => Fin.ext (by match a with | ⟨0, _⟩ => rfl | ⟨1, _⟩ => rfl | ⟨2, _⟩ => rfl)
    · exact Shape.idx_ext₂ rfl rfl
  · refine (val_main_v20_apply (F := Ideal) x0 x4 x5 x6 _).trans ((congrArg (val_main_v19 (F := Ideal) x0 x4 x5 x6) (?_ : _ = ix2 n i)).trans ((v19_at x0 x4 x5 x6 n i).trans ?_))
    · have hn := n.isLt; have hi := i.isLt
      refine Shape.idx_ext₂ ?_ ?_
      · show ((n.val / 2048 * 2048 + n.val % 2048) * 4096 + i.val) / 4096 = n.val; omega
      · show ((n.val / 2048 * 2048 + n.val % 2048) * 4096 + i.val) % 4096 = i.val; omega
    · simp only [v2_at]

end Half

section Whole
variable (x0 : FVec Ideal S2x2048x1024 .f32) (x1 x2 : FVec Ideal S1024x4096 .f32) (x3 : FVec Ideal S4096x1024 .f32)
  (x4 : FVec Ideal S1024x8 .f32) (x5 : FVec Ideal S8x1024x8 .f32) (x6 : FVec Ideal S8x8x4096 .f32)
  (x7 : FVec Ideal S1024x8 .f32) (x8 : FVec Ideal S8x1024x8 .f32) (x9 : FVec Ideal S8x8x4096 .f32)
  (x10 : FVec Ideal S4096x8 .f32) (x11 : FVec Ideal S8x4096x8 .f32) (x12 : FVec Ideal S8x8x1024 .f32)

/-- The up projection is the gate projection of its own weights. -/
theorem v42_eq : val_main_v42 (F := Ideal) x0 x2 x7 x8 x9 = val_main_v21 (F := Ideal) x0 x2 x7 x8 x9 := rfl

/-- The hidden value of token `n` at column `i`. -/
def hid (n i : Fin 4096) : EReal :=
  Spec.glu
    (Spec.projR (fun k => x0 (ix3 (bat n) (tok n) k)) (fun k => x1 (ix2 k i)) (fun e k => x4 (ix2 k e))
        (fun e r k => x5 (ix3 e k r)) (fun e r => x6 (ix3 e r i)))
    (Spec.projR (fun k => x0 (ix3 (bat n) (tok n) k)) (fun k => x2 (ix2 k i)) (fun e k => x7 (ix2 k e))
        (fun e r k => x8 (ix3 e k r)) (fun e r => x9 (ix3 e r i)))

/-- The hidden array, entry by entry. -/
theorem v44_at (n i : Fin 4096) : val_main_v44 (F := Ideal) x0 x1 x2 x4 x5 x6 x7 x8 x9 (ix3 (bat n) (tok n) i)
    = hid x0 x1 x2 x4 x5 x6 x7 x8 x9 n i := by
  refine (val_main_v44_apply (F := Ideal) x0 x1 x2 x4 x5 x6 x7 x8 x9 _).trans ?_
  rw [hid, Spec.glu, ← v21_at x0 x1 x4 x5 x6 n i, ← v21_at x0 x2 x7 x8 x9 n i]
  refine congrArg₂ (fun a b : EReal => a * b) (((val_main_v43_apply (F := Ideal) x0 x1 x4 x5 x6 _).trans (congrArg (fun z : EReal => val_main_v21 (F := Ideal) x0 x1 x4 x5 x6 (ix3 (bat n) (tok n) i) * z) ?_))) ?_
  · have one : ∀ j, val_main_call0_v2 (F := Ideal) j = 1 := fun j => (val_main_call0_v2_apply (F := Ideal) j).trans Ideal.ofBits_one_f32
    have one' : ∀ j, val_main_call0_v4 (F := Ideal) j = 1 := fun j => (val_main_call0_v4_apply (F := Ideal) j).trans Ideal.ofBits_one_f32
    refine (val_main_call0_v5_apply (F := Ideal) x0 x1 x4 x5 x6 _).trans ?_
    exact congrArg₂ Ideal.div (one' _) ((val_main_call0_v3_apply (F := Ideal) x0 x1 x4 x5 x6 _).trans (congrArg₂ (fun a b : EReal => a + b) (one _) rfl))
  · exact congrFun (v42_eq x0 x2 x7 x8 x9) _

/-- The hidden array flattened, entry by entry. -/
theorem v45_at (n i : Fin 4096) : val_main_v45 (F := Ideal) x0 x1 x2 x4 x5 x6 x7 x8 x9 (ix2 n i) = hid x0 x1 x2 x4 x5 x6 x7 x8 x9 n i := by
  refine (val_main_v45_apply (F := Ideal) x0 x1 x2 x4 x5 x6 x7 x8 x9 _).trans ((congrArg (val_main_v44 (F := Ideal) x0 x1 x2 x4 x5 x6 x7 x8 x9) (?_ : _ = ix3 (bat n) (tok n) i)).trans (v44_at x0 x1 x2 x4 x5 x6 x7 x8 x9 n i))
  have hn := n.isLt; have hk := i.isLt
  refine funext fun a => Fin.ext ?_
  match a with
  | ⟨0, _⟩ => show (n.val * 4096 + i.val) / 8388608 = n.val / 2048; omega
  | ⟨1, _⟩ => show (n.val * 4096 + i.val) / 4096 % 2048 = n.val % 2048; omega
  | ⟨2, _⟩ => show (n.val * 4096 + i.val) % 4096 = i.val; omega

/-- The down projection's logits are the hidden row against its router's columns. -/
theorem v47_at (n : Fin 4096) (e : Fin 8) : val_main_v47 (F := Ideal) x0 x1 x2 x4 x5 x6 x7 x8 x9 x10 (ix2 n e)
    = Spec.dot (hid x0 x1 x2 x4 x5 x6 x7 x8 x9 n) (fun k => x10 (ix2 k e)) := by
  refine (val_main_v47_apply x0 x1 x2 x4 x5 x6 x7 x8 x9 x10 _).trans (Finset.sum_congr rfl fun k _ => ?_)
  exact congrArg₂ (fun a b : EReal => a * b) ((rd2 (f := (val_main_v45 (F := Ideal) x0 x1 x2 x4 x5 x6 x7 x8 x9)) (v45_at x0 x1 x2 x4 x5 x6 x7 x8 x9 n k) rfl rfl)) (congrArg x10 (Shape.idx_ext₂ rfl rfl))

/-- The down projection's gates are the softmax of its logits. -/
theorem v58_at (n : Fin 4096) (e : Fin 8) : val_main_v58 (F := Ideal) x0 x1 x2 x4 x5 x6 x7 x8 x9 x10 (ix2 n e)
    = Spec.gate (fun e => val_main_v47 (F := Ideal) x0 x1 x2 x4 x5 x6 x7 x8 x9 x10 (ix2 n e)) e := by
  have hmax : val_main_v50 (F := Ideal) x0 x1 x2 x4 x5 x6 x7 x8 x9 x10 (ix1 n) = Spec.top fun e => val_main_v47 (F := Ideal) x0 x1 x2 x4 x5 x6 x7 x8 x9 x10 (ix2 n e) := by
    refine (val_main_v50_apply (F := Ideal) x0 x1 x2 x4 x5 x6 x7 x8 x9 x10 _).trans ?_
    refine (congrArg₂ (fun a b : EReal => max a b) ((val_main_v49_apply (F := Ideal) _).trans ofBits_bot_f32) (rowMax_apply (val_main_v47 (F := Ideal) x0 x1 x2 x4 x5 x6 x7 x8 x9 x10) n)).trans ?_
    exact max_eq_right bot_le
  have hex : ∀ k, val_main_v54 (F := Ideal) x0 x1 x2 x4 x5 x6 x7 x8 x9 x10 (ix2 n k)
      = Ideal.exp (val_main_v47 (F := Ideal) x0 x1 x2 x4 x5 x6 x7 x8 x9 x10 (ix2 n k) - Spec.top fun e => val_main_v47 (F := Ideal) x0 x1 x2 x4 x5 x6 x7 x8 x9 x10 (ix2 n e)) := fun k => by
    refine (val_main_v54_apply (F := Ideal) x0 x1 x2 x4 x5 x6 x7 x8 x9 x10 _).trans (congrArg Ideal.exp ((val_main_v53_apply (F := Ideal) x0 x1 x2 x4 x5 x6 x7 x8 x9 x10 _).trans (congrArg (val_main_v47 (F := Ideal) x0 x1 x2 x4 x5 x6 x7 x8 x9 x10 (ix2 n k) - ·) ?_)))
    refine ((val_main_v52_apply (F := Ideal) x0 x1 x2 x4 x5 x6 x7 x8 x9 x10 _).trans (val_main_v51_apply (F := Ideal) x0 x1 x2 x4 x5 x6 x7 x8 x9 x10 _)).trans ((congrArg (val_main_v50 (F := Ideal) x0 x1 x2 x4 x5 x6 x7 x8 x9 x10) ?_).trans hmax)
    exact funext fun a => Fin.ext (by match a with | ⟨0, _⟩ => rfl)
  refine (val_main_v58_apply (F := Ideal) x0 x1 x2 x4 x5 x6 x7 x8 x9 x10 _).trans ?_
  refine congrArg₂ Ideal.div ((hex e)) ?_
  refine ((val_main_v57_apply (F := Ideal) x0 x1 x2 x4 x5 x6 x7 x8 x9 x10 _).trans (val_main_v56_apply (F := Ideal) x0 x1 x2 x4 x5 x6 x7 x8 x9 x10 _)).trans ((val_main_v55_apply x0 x1 x2 x4 x5 x6 x7 x8 x9 x10 _).trans ?_)
  refine (congrArg (· + _) Ideal.ofBits_zero_f32).trans ((zero_add _).trans (Finset.sum_congr rfl fun k _ => ?_))
  exact rd2 (f := (val_main_v54 (F := Ideal) x0 x1 x2 x4 x5 x6 x7 x8 x9 x10)) (hex k) rfl rfl

/-- The down projection's rank values are the hidden row against each expert's first factor. -/
theorem v60_at (e r : Fin 8) (n : Fin 4096) : val_main_v60 (F := Ideal) x0 x1 x2 x4 x5 x6 x7 x8 x9 x11 (ix3 e n r)
    = Spec.dot (hid x0 x1 x2 x4 x5 x6 x7 x8 x9 n) (fun k => x11 (ix3 e k r)) := by
  refine (val_main_v60_apply (F := Ideal) x0 x1 x2 x4 x5 x6 x7 x8 x9 x11 _).trans ((val_main_v59_apply x0 x1 x2 x4 x5 x6 x7 x8 x9 x11 _).trans (Finset.sum_congr rfl fun k _ => ?_))
  refine (mul_comm _ _).trans (congrArg₂ (fun a b : EReal => a * b) (?_) (congrArg x11 ?_))
  · exact rd2 (f := (val_main_v45 (F := Ideal) x0 x1 x2 x4 x5 x6 x7 x8 x9)) (v45_at x0 x1 x2 x4 x5 x6 x7 x8 x9 n k) rfl rfl
  · exact funext fun a => Fin.ext (by match a with | ⟨0, _⟩ => rfl | ⟨1, _⟩ => rfl | ⟨2, _⟩ => rfl)

/-- The down projection's mixture of experts, at a token and a column. -/
theorem v64_at (n : Fin 4096) (j : Fin 1024) : val_main_v64 (F := Ideal) x0 x1 x2 x4 x5 x6 x7 x8 x9 x10 x11 x12 (ix2 n j)
    = Spec.mixR (Spec.gate fun e => val_main_v47 (F := Ideal) x0 x1 x2 x4 x5 x6 x7 x8 x9 x10 (ix2 n e))
        (fun e r => Spec.dot (hid x0 x1 x2 x4 x5 x6 x7 x8 x9 n) (fun k => x11 (ix3 e k r))) (fun e r => x12 (ix3 e r j)) := by
  refine (val_main_v64_apply x0 x1 x2 x4 x5 x6 x7 x8 x9 x10 x11 x12 _).trans (Finset.sum_congr rfl fun e _ => ?_)
  refine congrArg₂ (fun a b : EReal => a * b) ((rd2 (f := (val_main_v58 (F := Ideal) x0 x1 x2 x4 x5 x6 x7 x8 x9 x10)) (v58_at x0 x1 x2 x4 x5 x6 x7 x8 x9 x10 n e) rfl rfl)) ?_
  refine (val_main_v63_apply (F := Ideal) x0 x1 x2 x4 x5 x6 x7 x8 x9 x11 x12 _).trans (congrArg₂ (fun a b : EReal => a * b) (?_) ?_)
  · refine (val_main_v61_apply x0 x1 x2 x4 x5 x6 x7 x8 x9 x11 x12 _).trans (Finset.sum_congr rfl fun r _ => congrArg₂ (fun a b : EReal => a * b) (?_) (congrArg x12 ?_))
    · refine (congrArg (val_main_v60 (F := Ideal) x0 x1 x2 x4 x5 x6 x7 x8 x9 x11) ?_).trans (v60_at x0 x1 x2 x4 x5 x6 x7 x8 x9 x11 e r n)
      exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl)
  · exact (val_main_v62_apply (F := Ideal) _).trans ofBits_two_f32

/-- The reference's result at token `n` and column `j`. -/
theorem v67_at (n : Fin 4096) (j : Fin 1024) : val_main_v67 (F := Ideal) x0 x1 x2 x3 x4 x5 x6 x7 x8 x9 x10 x11 x12 (ix2 n j)
    = Spec.projR (hid x0 x1 x2 x4 x5 x6 x7 x8 x9 n) (fun k => x3 (ix2 k j)) (fun e k => x10 (ix2 k e))
        (fun e r k => x11 (ix3 e k r)) (fun e r => x12 (ix3 e r j)) := by
  have hn := n.isLt; have hj := j.isLt
  refine (val_main_v67_apply (F := Ideal) x0 x1 x2 x3 x4 x5 x6 x7 x8 x9 x10 x11 x12 _).trans ((congrArg (val_main_v66 (F := Ideal) x0 x1 x2 x3 x4 x5 x6 x7 x8 x9 x10 x11 x12) (?_ : _ = ix3 (bat n) (tok n) j)).trans ?_)
  · refine funext fun a => Fin.ext ?_
    match a with
    | ⟨0, _⟩ => show (n.val * 1024 + j.val) / 2097152 = n.val / 2048; omega
    | ⟨1, _⟩ => show (n.val * 1024 + j.val) / 1024 % 2048 = n.val % 2048; omega
    | ⟨2, _⟩ => show (n.val * 1024 + j.val) % 1024 = j.val; omega
  refine (val_main_v66_apply (F := Ideal) x0 x1 x2 x3 x4 x5 x6 x7 x8 x9 x10 x11 x12 _).trans (congrArg₂ (fun a b : EReal => a + b) (?_) ?_)
  · refine (val_main_v46_apply x0 x1 x2 x3 x4 x5 x6 x7 x8 x9 _).trans (Finset.sum_congr rfl fun k _ => congrArg₂ (fun a b : EReal => a * b) (?_) (congrArg x3 ?_))
    · refine (congrArg (val_main_v44 (F := Ideal) x0 x1 x2 x4 x5 x6 x7 x8 x9) ?_).trans (v44_at x0 x1 x2 x4 x5 x6 x7 x8 x9 n k)
      exact funext fun a => Fin.ext (by match a with | ⟨0, _⟩ => rfl | ⟨1, _⟩ => rfl | ⟨2, _⟩ => rfl)
    · exact Shape.idx_ext₂ rfl rfl
  · refine (val_main_v65_apply (F := Ideal) x0 x1 x2 x4 x5 x6 x7 x8 x9 x10 x11 x12 _).trans ((congrArg (val_main_v64 (F := Ideal) x0 x1 x2 x4 x5 x6 x7 x8 x9 x10 x11 x12) (?_ : _ = ix2 n j)).trans ((v64_at x0 x1 x2 x4 x5 x6 x7 x8 x9 x10 x11 x12 n j).trans ?_))
    · refine Shape.idx_ext₂ ?_ ?_
      · show ((n.val / 2048 * 2048 + n.val % 2048) * 1024 + j.val) / 1024 = n.val; omega
      · show ((n.val / 2048 * 2048 + n.val % 2048) * 1024 + j.val) % 1024 = j.val; omega
    · simp only [v47_at]

end Whole

end Cert.Proof.Ref
-- ==== Proof.Inputs.lean ====
module

public import proofs.«01_k».proof.Proof.RefRead
public import proofs.«01_k».proof.Proof.Launch
public import Idealize.ShloMosaic.Lib.StableHlo.RunRead

/-!
The arrays the region finds, read at an entry in terms of the thirteen arguments: the flattened input, the stacked
adapters and router columns, the flattened second factors and the cast weights.
-/

@[expose] public section

noncomputable section

namespace Cert.Proof.KernelIdealRing

open Cert.KernelIdeal Cert.KernelIdeal.Gen
open Idealize.ShloMosaic Idealize.ShloMosaic.TcCoe Idealize.ShloMosaic.ValueIdx
open Cert.Proof
open Cert.Proof.Ref (bat tok)

/-! ## Layouts -/

/-- Eight K×8 factors laid side by side as K×64, at an entry. -/
theorem stack_apply {K : ℕ} {α : Type} (A : (⟨3, ![8, K, 8]⟩ : Shape).Idx → α)
    (ht : (⟨3, ![8, K, 8]⟩ : Shape).Transposes [1, 0, 2] ⟨3, ![K, 8, 8]⟩) (hs : (⟨3, ![K, 8, 8]⟩ : Shape).ShapeCasts ⟨2, ![K, 64]⟩)
    (k : Fin K) (q : Fin 64) :
    shapeCast ⟨2, ![K, 64]⟩ (transpose ⟨3, ![K, 8, 8]⟩ [1, 0, 2] A ht) hs (ix2 k q) = A (ix3 (Spec.ex q) k (Spec.rk q)) := by
  refine (shapeCast_apply _ hs (ix2 k q) (ix3 k (Spec.ex q) (Spec.rk q)) ?_).trans
    (transpose_apply _ A ht (ix3 k (Spec.ex q) (Spec.rk q)) (ix3 (Spec.ex q) k (Spec.rk q)) fun b => ?_)
  · rw [Shape.rowMajor_val_three, Shape.rowMajor_val_two]
    show (k.val * 8 + q.val / 8) * 8 + q.val % 8 = k.val * 64 + q.val
    omega
  · match b with
    | ⟨0, _⟩ => rfl
    | ⟨1, _⟩ => rfl
    | ⟨2, _⟩ => rfl

/-- Eight 8×N factors laid one under another as 64×N, at an entry. -/
theorem flat_apply {N : ℕ} {α : Type} (B : (⟨3, ![8, 8, N]⟩ : Shape).Idx → α)
    (hs : (⟨3, ![8, 8, N]⟩ : Shape).ShapeCasts ⟨2, ![64, N]⟩) (q : Fin 64) (j : Fin N) :
    shapeCast ⟨2, ![64, N]⟩ B hs (ix2 q j) = B (ix3 (Spec.ex q) (Spec.rk q) j) := by
  refine shapeCast_apply _ hs (ix2 q j) (ix3 (Spec.ex q) (Spec.rk q) j) ?_
  rw [Shape.rowMajor_val_three, Shape.rowMajor_val_two]
  show (q.val / 8 * 8 + q.val % 8) * N + j.val = q.val * N + j.val
  rw [Nat.div_add_mod']

variable (m : (ℓ : Loc nD τ sig) → Buf (Elt Ideal) ℓ) (c : Dev nD)

/-! ## The arrays the windows cut -/

/-- The flattened input: row `n` is token `n % 2048` of batch `n / 2048`. -/
theorem V_x (n : Fin 4096) (k : Fin 1024) :
    V m c main_call0_v0 (ix2 n k) = m ((c : Thread nD τ).loc main_arg0) (ix3 (bat n) (tok n) k) := by
  have e : V m c main_call0_v0 = shapeCast S4096x1024 (m ((c : Thread nD τ).loc main_arg0)) shapeCasts_S2x2048x1024_S4096x1024 := by
    after_reads_simp; rfl
  refine (congrFun e _).trans (shapeCast_apply _ _ (ix2 n k) (ix3 (bat n) (tok n) k) ?_)
  rw [Shape.rowMajor_val_three, Shape.rowMajor_val_two]
  show (n.val / 2048 * 2048 + n.val % 2048) * 1024 + k.val = n.val * 1024 + k.val
  omega

/-- The flattened second factors of the gate projection. -/
theorem V_gbc (q : Fin 64) (i : Fin 4096) :
    V m c main_call0_v12 (ix2 q i) = m ((c : Thread nD τ).loc main_arg6) (ix3 (Spec.ex q) (Spec.rk q) i) := by
  have e : V m c main_call0_v12 = shapeCast S64x4096 (m ((c : Thread nD τ).loc main_arg6)) shapeCasts_S8x8x4096_S64x4096 := by
    after_reads_simp; rfl
  exact (congrFun e _).trans (flat_apply _ _ q i)

/-- The flattened second factors of the up projection. -/
theorem V_ubc (q : Fin 64) (i : Fin 4096) :
    V m c main_call0_v14 (ix2 q i) = m ((c : Thread nD τ).loc main_arg9) (ix3 (Spec.ex q) (Spec.rk q) i) := by
  have e : V m c main_call0_v14 = shapeCast S64x4096 (m ((c : Thread nD τ).loc main_arg9)) shapeCasts_S8x8x4096_S64x4096 := by
    after_reads_simp; rfl
  exact (congrFun e _).trans (flat_apply _ _ q i)

/-- The flattened second factors of the down projection. -/
theorem V_dbc (q : Fin 64) (j : Fin 1024) :
    V m c main_call0_v16 (ix2 q j) = m ((c : Thread nD τ).loc main_arg12) (ix3 (Spec.ex q) (Spec.rk q) j) := by
  have e : V m c main_call0_v16 = shapeCast S64x1024 (m ((c : Thread nD τ).loc main_arg12)) shapeCasts_S8x8x1024_S64x1024 := by
    after_reads_simp; rfl
  exact (congrFun e _).trans (flat_apply _ _ q j)

/-- What the host operations have left in a buffer after the first `n` of them. -/
abbrev U (n : ℕ) (b : Ref sig .tc) : Buf (Elt Ideal) ((c : Thread nD τ).loc b) := StableHlo.upto hostOps0 (fun b => m (c, b)) n b

/-- The down projection's stack: its router columns, then its first factors. -/
theorem V_dc : V m c main_call0_v10 = concatenate S4096x72 1 [⟨S4096x8, U m c 9 main_arg10⟩, ⟨S4096x64, U m c 9 main_call0_v8⟩]
    concatenates_S4096x8_S4096x64_S4096x72_d1 := by
  after_reads_simp; rfl

/-- The router columns of the down projection's stack. -/
theorem V_dc_wr (i : Fin 4096) (e : Fin 8) :
    V m c main_call0_v10 (ix2 i (⟨e.val, by omega⟩ : Fin 72)) = m ((c : Thread nD τ).loc main_arg10) (ix2 i e) := by
  have h : U m c 9 main_arg10 = m ((c : Thread nD τ).loc main_arg10) := by after_reads_simp
  refine ((congrFun (V_dc m c) _).trans (concatenate_pair_apply_left (t := S4096x72) (s₁ := S4096x8) (s₂ := S4096x64) 1
    (U m c 9 main_arg10) (U m c 9 main_call0_v8) concatenates_S4096x8_S4096x64_S4096x72_d1 (ix2 i (⟨e.val, by omega⟩ : Fin 72)) rfl (ix2 i e) fun b => ?_)).trans (congrFun h _)
  match b with
  | ⟨0, _⟩ => rfl
  | ⟨1, _⟩ => rfl

/-- The first-factor columns of the down projection's stack. -/
theorem V_dc_a (i : Fin 4096) (q : Fin 64) :
    V m c main_call0_v10 (ix2 i (⟨8 + q.val, by omega⟩ : Fin 72)) = m ((c : Thread nD τ).loc main_arg11) (ix3 (Spec.ex q) i (Spec.rk q)) := by
  have h : U m c 9 main_call0_v8 = shapeCast S4096x64 (transpose S4096x8x8 [1, 0, 2] (m ((c : Thread nD τ).loc main_arg11)) transposes_S8x4096x8_S4096x8x8_1_0_2)
      shapeCasts_S4096x8x8_S4096x64 := by after_reads_simp; rfl
  refine ((congrFun (V_dc m c) _).trans (concatenate_pair_apply_right (t := S4096x72) (s₁ := S4096x8) (s₂ := S4096x64) 1
    (U m c 9 main_arg10) (U m c 9 main_call0_v8) concatenates_S4096x8_S4096x64_S4096x72_d1 (ix2 i (⟨8 + q.val, by omega⟩ : Fin 72)) rfl rfl (ix2 i q) (fun b hb => ?_) ?_)).trans
    ((congrFun h _).trans (stack_apply _ _ _ i q))
  · match b with
    | ⟨0, _⟩ => rfl
    | ⟨1, _⟩ => exact absurd rfl hb
  · show q.val + 8 = 8 + q.val
    omega

/-- The gate and up projections' stack: both routers' columns, then both first factors. -/
theorem V_guc : V m c main_call0_v6 = concatenate S1024x144 1
    [⟨S1024x8, U m c 5 main_arg4⟩, ⟨S1024x8, U m c 5 main_arg7⟩, ⟨S1024x64, U m c 5 main_call0_v2⟩, ⟨S1024x64, U m c 5 main_call0_v4⟩]
    concatenates_S1024x8_S1024x8_S1024x64_S1024x64_S1024x144_d1 := by
  after_reads_simp; rfl

/-- A column of the gate and up projections' stack is a column of the piece that holds it. -/
theorem V_guc_piece {w : ℕ} (k : Fin 1024) (z : Fin 144) (p : ℕ) (hp : p < 4) (X : (⟨2, ![1024, w]⟩ : Shape).Idx → EReal)
    (hX : ([⟨S1024x8, U m c 5 main_arg4⟩, ⟨S1024x8, U m c 5 main_arg7⟩, ⟨S1024x64, U m c 5 main_call0_v2⟩, ⟨S1024x64, U m c 5 main_call0_v4⟩]
      : List ((s : Shape) × (s.Idx → EReal)))[p] = ⟨⟨2, ![1024, w]⟩, X⟩)
    (pre : ℕ) (hpre : ((([S1024x8, S1024x8, S1024x64, S1024x64] : List Shape).take p).map fun s => if h : s.rank = 2 then s.size ((1 : Fin 2).cast h.symm) else 0).sum = pre)
    (q : Fin w) (hz : pre + q.val = z.val) :
    V m c main_call0_v6 (ix2 k z) = X (ix2 k q) := by
  refine (congrFun (V_guc m c) _).trans (concatenate_apply_piece (t := S1024x144) 1
    [⟨S1024x8, U m c 5 main_arg4⟩, ⟨S1024x8, U m c 5 main_arg7⟩, ⟨S1024x64, U m c 5 main_call0_v2⟩, ⟨S1024x64, U m c 5 main_call0_v4⟩]
    concatenates_S1024x8_S1024x8_S1024x64_S1024x64_S1024x144_d1 (ix2 k z) p hp ⟨2, ![1024, w]⟩ X hX rfl pre ?_ (ix2 k q) (fun b hb => ?_) hz)
  · rw [List.map_take]; exact hpre
  · match b with
    | ⟨0, _⟩ => rfl
    | ⟨1, _⟩ => exact absurd rfl hb

/-- The gate projection's router columns. -/
theorem V_guc_gwr (k : Fin 1024) (e : Fin 8) :
    V m c main_call0_v6 (ix2 k (⟨e.val, by omega⟩ : Fin 144)) = m ((c : Thread nD τ).loc main_arg4) (ix2 k e) := by
  have h : U m c 5 main_arg4 = m ((c : Thread nD τ).loc main_arg4) := by after_reads_simp
  exact (V_guc_piece m c k _ 0 (by decide) (U m c 5 main_arg4) rfl 0 rfl e (Nat.zero_add _)).trans (congrFun h _)

/-- The up projection's router columns. -/
theorem V_guc_uwr (k : Fin 1024) (e : Fin 8) :
    V m c main_call0_v6 (ix2 k (⟨8 + e.val, by omega⟩ : Fin 144)) = m ((c : Thread nD τ).loc main_arg7) (ix2 k e) := by
  have h : U m c 5 main_arg7 = m ((c : Thread nD τ).loc main_arg7) := by after_reads_simp
  exact (V_guc_piece m c k _ 1 (by decide) (U m c 5 main_arg7) rfl 8 rfl e rfl).trans (congrFun h _)

/-- The gate projection's first-factor columns. -/
theorem V_guc_ga (k : Fin 1024) (q : Fin 64) :
    V m c main_call0_v6 (ix2 k (⟨16 + q.val, by omega⟩ : Fin 144)) = m ((c : Thread nD τ).loc main_arg5) (ix3 (Spec.ex q) k (Spec.rk q)) := by
  have h : U m c 5 main_call0_v2 = shapeCast S1024x64 (transpose S1024x8x8 [1, 0, 2] (m ((c : Thread nD τ).loc main_arg5)) transposes_S8x1024x8_S1024x8x8_1_0_2)
      shapeCasts_S1024x8x8_S1024x64 := by after_reads_simp; rfl
  exact (V_guc_piece m c k _ 2 (by decide) (U m c 5 main_call0_v2) rfl 16 rfl q rfl).trans ((congrFun h _).trans (stack_apply _ _ _ k q))

/-- The up projection's first-factor columns. -/
theorem V_guc_ua (k : Fin 1024) (q : Fin 64) :
    V m c main_call0_v6 (ix2 k (⟨80 + q.val, by omega⟩ : Fin 144)) = m ((c : Thread nD τ).loc main_arg8) (ix3 (Spec.ex q) k (Spec.rk q)) := by
  have h : U m c 5 main_call0_v4 = shapeCast S1024x64 (transpose S1024x8x8 [1, 0, 2] (m ((c : Thread nD τ).loc main_arg8)) transposes_S8x1024x8_S1024x8x8_1_0_2)
      shapeCasts_S1024x8x8_S1024x64 := by after_reads_simp; rfl
  exact (V_guc_piece m c k _ 3 (by decide) (U m c 5 main_call0_v4) rfl 80 rfl q rfl).trans ((congrFun h _).trans (stack_apply _ _ _ k q))

/-- The cast weights are the weights. -/
theorem castA_wg : castA c wg (V m c main_arg1) = m ((c : Thread nD τ).loc main_arg1) := V_arg m c main_arg1 (by decide)
/-- The staged up projection is the up projection. -/
theorem castA_wu : castA c wu (V m c main_arg2) = m ((c : Thread nD τ).loc main_arg2) := V_arg m c main_arg2 (by decide)
/-- The staged down projection is the down projection. -/
theorem castB_wd : castB c wd (V m c main_arg3) = m ((c : Thread nD τ).loc main_arg3) := V_arg m c main_arg3 (by decide)

end Cert.Proof.KernelIdealRing

end
-- ==== Proof.Blocks.lean ====
module

public import proofs.«01_k».proof.Proof.Out
public import proofs.«01_k».proof.Proof.Inputs
public import Idealize.ShloMosaic.Lib.Pipeline.ValueKit.Geometry

/-!
The windows' blocks at an entry, and the result's array from its eight row blocks.
-/

@[expose] public section

noncomputable section

namespace Cert.Proof.KernelIdealRing

open Cert.KernelIdeal Cert.KernelIdeal.Gen
open Idealize.ShloMosaic Idealize.ShloMosaic.TcCoe Idealize.ShloMosaic.ValueIdx Idealize.ShloMosaic.Pipeline
open Cert.Proof

variable (m : (ℓ : Loc nD τ sig) → Buf (Elt Ideal) ℓ) (c : Dev nD)

/-- Point `t` reads row block `t` of the input. -/
theorem idx0 : ∀ t : Fin grid0.N, win0_0.index t = ![t.val, 0] := by decide +kernel
/-- Every point reads all of window 1's array. -/
theorem idx1 : ∀ t : Fin grid0.N, win0_1.index t = ![0, 0] := by decide +kernel
/-- Every point reads all of window 2's array. -/
theorem idx2 : ∀ t : Fin grid0.N, win0_2.index t = ![0, 0] := by decide +kernel
/-- Every point reads all of window 3's array. -/
theorem idx3 : ∀ t : Fin grid0.N, win0_3.index t = ![0, 0] := by decide +kernel
/-- Every point reads all of window 4's array. -/
theorem idx4 : ∀ t : Fin grid0.N, win0_4.index t = ![0, 0] := by decide +kernel
/-- Every point reads all of window 5's array. -/
theorem idx5 : ∀ t : Fin grid0.N, win0_5.index t = ![0, 0] := by decide +kernel
/-- Point `t` writes row block `t` of the result. -/
theorem idx6 : ∀ t : Fin grid0.N, win0_6.index t = ![t.val, 0] := by decide +kernel

/-- Row `y` of block `t`. -/
def row (t : Fin cfg0.N) (y : Fin 512) : Fin 4096 := ⟨t.val * 512 + y.val, by have h : t.val < 8 := t.isLt; omega⟩

/-- The input block at point `t` is the flattened input's rows from `512 * t`. -/
theorem iblk0_apply (t : Fin cfg0.N) (y : Fin 512) (k : Fin 1024) : iblk m c 0 t (ix2 y k) = V m c main_call0_v0 (ix2 (row t y) k) := by
  blk_simp [iblk]
  refine congrArg (V m c main_call0_v0) (Shape.idx_ext₂ ?_ ?_)
  · blk_simp [idx0]; rfl
  · blk_simp [idx0]

/-- The gate and up stack is staged whole. -/
theorem iblk1_apply (t : Fin cfg0.N) (a : Fin 1024) (b : Fin 144) : iblk m c 1 t (ix2 a b) = V m c main_call0_v6 (ix2 a b) := by
  blk_simp [iblk]
  refine congrArg (V m c main_call0_v6) (Shape.idx_ext₂ ?_ ?_)
  · blk_simp [idx1]
  · blk_simp [idx1]

/-- The down stack is staged whole. -/
theorem iblk2_apply (t : Fin cfg0.N) (a : Fin 4096) (b : Fin 72) : iblk m c 2 t (ix2 a b) = V m c main_call0_v10 (ix2 a b) := by
  blk_simp [iblk]
  refine congrArg (V m c main_call0_v10) (Shape.idx_ext₂ ?_ ?_)
  · blk_simp [idx2]
  · blk_simp [idx2]

/-- The gate projection's second factors are staged whole. -/
theorem iblk3_apply (t : Fin cfg0.N) (a : Fin 64) (b : Fin 4096) : iblk m c 3 t (ix2 a b) = V m c main_call0_v12 (ix2 a b) := by
  blk_simp [iblk]
  refine congrArg (V m c main_call0_v12) (Shape.idx_ext₂ ?_ ?_)
  · blk_simp [idx3]
  · blk_simp [idx3]

/-- The up projection's second factors are staged whole. -/
theorem iblk4_apply (t : Fin cfg0.N) (a : Fin 64) (b : Fin 4096) : iblk m c 4 t (ix2 a b) = V m c main_call0_v14 (ix2 a b) := by
  blk_simp [iblk]
  refine congrArg (V m c main_call0_v14) (Shape.idx_ext₂ ?_ ?_)
  · blk_simp [idx4]
  · blk_simp [idx4]

/-- The down projection's second factors are staged whole. -/
theorem iblk5_apply (t : Fin cfg0.N) (a : Fin 64) (b : Fin 1024) : iblk m c 5 t (ix2 a b) = V m c main_call0_v16 (ix2 a b) := by
  blk_simp [iblk]
  refine congrArg (V m c main_call0_v16) (Shape.idx_ext₂ ?_ ?_)
  · blk_simp [idx5]
  · blk_simp [idx5]

/-- The result's array ends at `G` when every stored block holds `G`'s rows. -/
theorem final_eq (G : S4096x1024.Idx → EReal)
    (h : ∀ (t : Fin cfg0.N) (y : Fin 512) (j : Fin 1024), outAt m c t (ix2 y j) = G (ix2 (row t y) j)) :
    (dats m 0 c).arrAt 6 cfg0.N = G := by
  refine (dats m 0 c).arrAt_eq_of_covers 6 G (by decide +kernel) fun t hf y => ?_
  blk_simp
  rw [after_w6]
  refine (congrArg (outAt m c t) (eq_ix2 y)).trans ((h t (y 0) (y 1)).trans (congrArg G (Shape.idx_ext₂ ?_ ?_)))
  · blk_simp [idx6]; rfl
  · blk_simp [idx6]

end Cert.Proof.KernelIdealRing

end
-- ==== Proof.Match.lean ====
module

public import proofs.«01_k».proof.Proof.Blocks

/-!
The two programs' results agree: where what the routers read is finite, the kernel's stacked form of a projection
with its mixture of experts is the reference's expert by expert form.
-/

@[expose] public section

noncomputable section

namespace Cert.Proof.KernelIdealRing

open Cert.KernelIdeal Cert.KernelIdeal.Gen
open Idealize.ShloMosaic Idealize.ShloMosaic.TcCoe Idealize.ShloMosaic.ValueIdx
open Cert.Proof
open Cert.Proof.Ref (bat tok)

section Arrays
variable (x0 : S2x2048x1024.Idx → EReal) (x1 x2 : S1024x4096.Idx → EReal) (x3 : S4096x1024.Idx → EReal)
  (x4 : S1024x8.Idx → EReal) (x5 : S8x1024x8.Idx → EReal) (x6 : S8x8x4096.Idx → EReal)
  (x7 : S1024x8.Idx → EReal) (x8 : S8x1024x8.Idx → EReal) (x9 : S8x8x4096.Idx → EReal)
  (x10 : S4096x8.Idx → EReal) (x11 : S8x4096x8.Idx → EReal) (x12 : S8x8x1024.Idx → EReal)

/-- Everything a router's logits are computed from is a finite number. -/
structure Finite : Prop where
  f0 : ∀ i, Spec.IsFin (x0 i)
  f1 : ∀ i, Spec.IsFin (x1 i)
  f2 : ∀ i, Spec.IsFin (x2 i)
  f4 : ∀ i, Spec.IsFin (x4 i)
  f5 : ∀ i, Spec.IsFin (x5 i)
  f6 : ∀ i, Spec.IsFin (x6 i)
  f7 : ∀ i, Spec.IsFin (x7 i)
  f8 : ∀ i, Spec.IsFin (x8 i)
  f9 : ∀ i, Spec.IsFin (x9 i)
  f10 : ∀ i, Spec.IsFin (x10 i)

variable {x0 x1 x2 x4 x5 x6 x7 x8 x9 x10}

/-- The reference's hidden entries are finite. -/
theorem hid_fin (hf : Finite x0 x1 x2 x4 x5 x6 x7 x8 x9 x10) (n i : Fin 4096) : Spec.IsFin (Ref.hid x0 x1 x2 x4 x5 x6 x7 x8 x9 n i) :=
  Spec.glu_fin (Spec.projR_fin (fun _ => hf.f0 _) (fun _ => hf.f1 _) (fun _ _ => hf.f4 _) (fun _ _ _ => hf.f5 _) (fun _ _ => hf.f6 _))
    (Spec.projR_fin (fun _ => hf.f0 _) (fun _ => hf.f2 _) (fun _ _ => hf.f7 _) (fun _ _ _ => hf.f8 _) (fun _ _ => hf.f9 _))

/-- The kernel's hidden entries are the reference's. -/
theorem hidK_eq (hf : Finite x0 x1 x2 x4 x5 x6 x7 x8 x9 x10) (n i : Fin 4096) {x : Fin 1024 → EReal} {guc : S1024x144.Idx → EReal}
    {gbc ubc : S64x4096.Idx → EReal} (hx : ∀ k, x k = x0 (ix3 (bat n) (tok n) k))
    (hgw : ∀ k (e : Fin 8), guc (ix2 k (⟨e.val, by omega⟩ : Fin 144)) = x4 (ix2 k e))
    (huw : ∀ k (e : Fin 8), guc (ix2 k (⟨8 + e.val, by omega⟩ : Fin 144)) = x7 (ix2 k e))
    (hga : ∀ k (q : Fin 64), guc (ix2 k (⟨16 + q.val, by omega⟩ : Fin 144)) = x5 (ix3 (Spec.ex q) k (Spec.rk q)))
    (hua : ∀ k (q : Fin 64), guc (ix2 k (⟨80 + q.val, by omega⟩ : Fin 144)) = x8 (ix3 (Spec.ex q) k (Spec.rk q)))
    (hgb : ∀ (q : Fin 64) i, gbc (ix2 q i) = x6 (ix3 (Spec.ex q) (Spec.rk q) i))
    (hub : ∀ (q : Fin 64) i, ubc (ix2 q i) = x9 (ix3 (Spec.ex q) (Spec.rk q) i)) :
    hidK x guc gbc ubc x1 x2 i = Ref.hid x0 x1 x2 x4 x5 x6 x7 x8 x9 n i := by
  obtain rfl := funext hx
  unfold hidK Ref.hid
  simp only [hgw, huw, hga, hua, hgb, hub]
  exact congrArg₂ Spec.glu
    (Spec.projK_eq _ _ (fun e k => x4 (ix2 k e)) (fun e r k => x5 (ix3 e k r)) (fun e r => x6 (ix3 e r i)) (fun _ => hf.f0 _) fun _ _ => hf.f4 _)
    (Spec.projK_eq _ _ (fun e k => x7 (ix2 k e)) (fun e r k => x8 (ix3 e k r)) (fun e r => x9 (ix3 e r i)) (fun _ => hf.f0 _) fun _ _ => hf.f7 _)

/-- The kernel's output projection is the reference's result. -/
theorem down_eq (hf : Finite x0 x1 x2 x4 x5 x6 x7 x8 x9 x10) (n : Fin 4096) (j : Fin 1024) {h : Fin 4096 → EReal} {dc : S4096x72.Idx → EReal}
    {dbc : S64x1024.Idx → EReal} (hh : ∀ i, h i = Ref.hid x0 x1 x2 x4 x5 x6 x7 x8 x9 n i)
    (hw : ∀ i (e : Fin 8), dc (ix2 i (⟨e.val, by omega⟩ : Fin 72)) = x10 (ix2 i e))
    (ha : ∀ i (q : Fin 64), dc (ix2 i (⟨8 + q.val, by omega⟩ : Fin 72)) = x11 (ix3 (Spec.ex q) i (Spec.rk q)))
    (hb : ∀ (q : Fin 64) j, dbc (ix2 q j) = x12 (ix3 (Spec.ex q) (Spec.rk q) j)) :
    Spec.projK h (fun i => x3 (ix2 i j)) (fun e i => dc (ix2 i (⟨e.val, by omega⟩ : Fin 72)))
        (fun c i => dc (ix2 i (⟨8 + c.val, by omega⟩ : Fin 72))) (fun c => dbc (ix2 c j))
      = Cert.ReferenceIdeal.Read.val_main_v67 (F := Ideal) x0 x1 x2 x3 x4 x5 x6 x7 x8 x9 x10 x11 x12 (ix2 n j) := by
  refine Eq.trans ?_ (Ref.v67_at x0 x1 x2 x3 x4 x5 x6 x7 x8 x9 x10 x11 x12 n j).symm
  obtain rfl := funext hh
  simp only [hw, ha, hb]
  exact Spec.projK_eq _ _ (fun e i => x10 (ix2 i e)) (fun e r i => x11 (ix3 e i r)) (fun e r => x12 (ix3 e r j)) (hid_fin hf n) fun _ _ => hf.f10 _

end Arrays

variable (m : (ℓ : Loc nD τ sig) → Buf (Elt Ideal) ℓ) (c : Dev nD)

/-- An argument's contents at the start. -/
abbrev A (a : Ref sig .tc) : Buf (Elt Ideal) ((c : Thread nD τ).loc a) := m ((c : Thread nD τ).loc a)

/-- What the reference computes from the kernel's arguments. -/
def want : S4096x1024.Idx → EReal :=
  Cert.ReferenceIdeal.Read.val_main_v67 (F := Ideal) (A m c main_arg0) (A m c main_arg1) (A m c main_arg2) (A m c main_arg3) (A m c main_arg4) (A m c main_arg5)
    (A m c main_arg6) (A m c main_arg7) (A m c main_arg8) (A m c main_arg9) (A m c main_arg10) (A m c main_arg11) (A m c main_arg12)

/-- The arguments' finiteness. -/
def FinArgs : Prop :=
  Finite (A m c main_arg0) (A m c main_arg1) (A m c main_arg2) (A m c main_arg4) (A m c main_arg5) (A m c main_arg6) (A m c main_arg7)
    (A m c main_arg8) (A m c main_arg9) (A m c main_arg10)

/-- Every stored block holds the reference's rows. -/
theorem outAt_apply (hf : FinArgs m c) (t : Fin cfg0.N) (y : Fin 512) (j : Fin 1024) : outAt m c t (ix2 y j) = want m c (ix2 (row t y) j) := by
  unfold outAt
  rw [castA_wg, castA_wu, castB_wd]
  refine (outF_apply _ _ _ _ _ _ _ _ _ y j).trans ?_
  refine down_eq (A m c main_arg3) (A m c main_arg11) (A m c main_arg12) hf (row t y) j (fun i => ?_)
    (fun i e => (iblk2_apply m c t i _).trans (V_dc_wr m c i e)) (fun i q => (iblk2_apply m c t i _).trans (V_dc_a m c i q))
    (fun q j => (iblk5_apply m c t q j).trans (V_dbc m c q j))
  exact hidK_eq hf (row t y) i (fun k => (iblk0_apply m c t y k).trans (V_x m c (row t y) k))
    (fun k e => (iblk1_apply m c t k _).trans (V_guc_gwr m c k e)) (fun k e => (iblk1_apply m c t k _).trans (V_guc_uwr m c k e))
    (fun k q => (iblk1_apply m c t k _).trans (V_guc_ga m c k q)) (fun k q => (iblk1_apply m c t k _).trans (V_guc_ua m c k q))
    (fun q i => (iblk3_apply m c t q i).trans (V_gbc m c q i)) (fun q i => (iblk4_apply m c t q i).trans (V_ubc m c q i))

/-- The result's array ends at the reference's value. -/
theorem final (hf : FinArgs m c) : (dats m 0 c).arrAt 6 cfg0.N = want m c := final_eq m c _ (outAt_apply m c hf)

end Cert.Proof.KernelIdealRing

end
-- ==== Proof.Pre.lean ====
module

public import proofs.«01_k».proof.Defs
public import proofs.«01_k».proof.Proof.Match
public import Idealize.ShloMosaic.Lib.ReduceAll

/-!
The precondition read back: its shape facts, and the finiteness it states of the arrays the routers read.
-/

@[expose] public section

noncomputable section

namespace Cert.Proof.Pre

open Idealize.ShloMosaic
open Cert.Proof

open Cert.Pre_finite_inputs in
/-- The shape facts the precondition states. -/
theorem facts : Cert.Pre_finite_inputs.Facts where
  bcast_S_S2x2048x1024 := by decide
  reducesTo_S2x2048x1024_S_d0_1_2 := by decide
  h_S_ := by decide
  bcast_S_S1024x4096 := by decide
  reducesTo_S1024x4096_S_d0_1 := by decide
  bcast_S_S1024x8 := by decide
  reducesTo_S1024x8_S_d0_1 := by decide
  bcast_S_S8x1024x8 := by decide
  reducesTo_S8x1024x8_S_d0_1_2 := by decide
  bcast_S_S8x8x4096 := by decide
  reducesTo_S8x8x4096_S_d0_1_2 := by decide
  bcast_S_S4096x8 := by decide
  reducesTo_S4096x8_S_d0_1 := by decide

/-- The bits of plus infinity. -/
theorem ofBits_top_f32 : Ideal.ofBits .f32 0x7F800000#32 = ⊤ := by
  simp [Ideal.ofBits, Ideal.ieee]

/-- A test that every entry of an array lies below infinity in magnitude, read back. -/
theorem fin_of_test {s : Shape} {axes : List (Fin s.rank)} (a : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (h : Host.reduce IntOp.andi (cmpf .olt (Host.absf a) (broadcastInDim s ![] hb (constant ⟨0, ![]⟩ .f32 0x7F800000#32))) (constantI ⟨0, ![]⟩ 1 1#1) hr hu j = 1#1)
    (i : s.Idx) : Spec.IsFin (a i) := by
  have e := Host.reduce_andi_all _ _ hr hu j h i
  refine Spec.IsFin.of_abs_lt ?_
  rw [← ofBits_top_f32]
  by_contra hn
  have z : FloatOps.cmpf (F := Ideal) .olt (max (a i) (-(a i))) (Ideal.ofBits .f32 0x7F800000#32) = 1#1 := e
  simp [FloatOps.cmpf, Ideal.cmp, hn] at z

/-- The precondition at any arrays: the ten the routers read are finite. -/
theorem finite_of_fn [Cert.Pre_finite_inputs.Facts] (x0 : FVec Ideal ⟨3, ![2, 2048, 1024]⟩ .f32) (x1 x2 : FVec Ideal ⟨2, ![1024, 4096]⟩ .f32)
    (x3 : FVec Ideal ⟨2, ![4096, 1024]⟩ .f32) (x4 : FVec Ideal ⟨2, ![1024, 8]⟩ .f32) (x5 : FVec Ideal ⟨3, ![8, 1024, 8]⟩ .f32)
    (x6 : FVec Ideal ⟨3, ![8, 8, 4096]⟩ .f32) (x7 : FVec Ideal ⟨2, ![1024, 8]⟩ .f32) (x8 : FVec Ideal ⟨3, ![8, 1024, 8]⟩ .f32)
    (x9 : FVec Ideal ⟨3, ![8, 8, 4096]⟩ .f32) (x10 : FVec Ideal ⟨2, ![4096, 8]⟩ .f32) (x11 : FVec Ideal ⟨3, ![8, 4096, 8]⟩ .f32)
    (x12 : FVec Ideal ⟨3, ![8, 8, 1024]⟩ .f32)
    (h : Cert.Pre_finite_inputs.fn (F := Ideal) x0 x1 x2 x3 x4 x5 x6 x7 x8 x9 x10 x11 x12 = fun _ => 1#1) :
    KernelIdealRing.Finite x0 x1 x2 x4 x5 x6 x7 x8 x9 x10 := by
  have e := congrFun h fun a => a.elim0
  dsimp only [Cert.Pre_finite_inputs.fn, Cert.Pre_finite_inputs.fn_part1, Cert.Pre_finite_inputs.fn_part2, andi] at e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h2⟩ := IntOp.andi_eq_one.1 e
  obtain ⟨h0, h1⟩ := IntOp.andi_eq_one.1 e
  exact ⟨fin_of_test x0 _ _ _ _ h0, fin_of_test x1 _ _ _ _ h1, fin_of_test x2 _ _ _ _ h2, fin_of_test x4 _ _ _ _ h4, fin_of_test x5 _ _ _ _ h5,
    fin_of_test x6 _ _ _ _ h6, fin_of_test x7 _ _ _ _ h7, fin_of_test x8 _ _ _ _ h8, fin_of_test x9 _ _ _ _ h9, fin_of_test x10 _ _ _ _ h10⟩

/-- The precondition of a memory: its arguments' finiteness. -/
theorem finArgs (m : (ℓ : Loc Cert.KernelIdeal.nD Cert.KernelIdeal.τ Cert.KernelIdeal.sig) → Buf (Elt Ideal) ℓ)
    (h : Cert.Pre_KernelIdeal_finite_inputs (hPre_finite_inputs := facts) m) (c : Dev Cert.KernelIdeal.nD) : KernelIdealRing.FinArgs m c :=
  letI := facts
  finite_of_fn _ _ _ _ _ _ _ _ _ _ _ _ _ (h c)

end Cert.Proof.Pre

end
-- ==== Proof.lean ====
module

public import proofs.«01_k».proof.Defs
public import proofs.«01_k».proof.Proof.Launch
public import proofs.«01_k».proof.Proof.LaunchK
public import proofs.«01_k».proof.Proof.Gen.ReferenceIdeal
public import proofs.«01_k».proof.Proof.Gen.ReferenceIdeal.Run
public import proofs.«01_k».proof.Proof.Pre
public import Idealize.ShloMosaic.Lib.Quiescent
public import proofs.«01_k».proof.Proof.Gen.ReferenceIdeal.Read

@[expose] public section

noncomputable section

namespace Cert.Proof

open Idealize.ShloMosaic Idealize.SL.Sem Cert.Kernel

/-- The reference's frame: its generated run, and it declares no semaphore. -/
theorem frame_ref : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

/-- On finite inputs the kernel and the reference end with the same result. -/
theorem algebraic : Cert.algebraic_KernelIdeal_ReferenceIdeal_pre_finite_inputs (hKernelIdeal := Cert.KernelIdeal.Gen.facts)
    (hReferenceIdeal := Cert.ReferenceIdeal.Gen.facts) (hPre_finite_inputs := Pre.facts) := fun m g m' g' hp ha =>
  ⟨fun c => KernelIdealRing.want m c,
    (θ_run _ _ _).mono (fun _ h c => ⟨((h.1 c).1 6).trans (KernelIdealRing.final m c (Pre.finArgs m hp c)), KernelIdealRing.args_end m h.1 c⟩)
      (KernelIdealRing.run_main m g),
    (θ_run _ _ _).mono (fun r h c => ⟨(h c).1.trans ((Cert.ReferenceIdeal.Read.val_main_v67_eq m' c).trans (by
      obtain ⟨e0, e1, e2, e3, e4, e5, e6, e7, e8, e9, e10, e11, e12⟩ := ha c
      rw [e0, e1, e2, e3, e4, e5, e6, e7, e8, e9, e10, e11, e12]; rfl)), (h c).2⟩) (Cert.ReferenceIdeal.Value.run m' g')⟩

/-- Everything the certificate claims. -/
theorem claim : Cert.Claim := ⟨Cert.Kernel.Gen.facts, Cert.KernelIdeal.Gen.facts, Cert.ReferenceIdeal.Gen.facts, Pre.facts,
  KernelRing.frame, KernelIdealRing.frame, fun m g _ => KernelIdealRing.frame m g trivial, frame_ref, fun m g _ => frame_ref m g trivial,
  trivial, algebraic⟩

end Cert.Proof

end
